-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8x512x1024 : Shape := ⟨3, ![8, 512, 1024]⟩
abbrev S4x512x1024 : Shape := ⟨3, ![4, 512, 1024]⟩
abbrev S2x1024 : Shape := ⟨2, ![2, 1024]⟩
abbrev S8 : Shape := ⟨1, ![8]⟩
abbrev S4 : Shape := ⟨1, ![4]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x510x1024 : Shape := ⟨3, ![1, 510, 1024]⟩
abbrev S510x1024 : Shape := ⟨2, ![510, 1024]⟩
abbrev S1x1024 : Shape := ⟨2, ![1, 1024]⟩
abbrev S1x1x1024 : Shape := ⟨3, ![1, 1, 1024]⟩
abbrev S1x2x1024 : Shape := ⟨3, ![1, 2, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S8x512x1024, .bf16⟩
  | .local _ .vmem, ⟨1, _⟩ => ⟨S4x512x1024, .bf16⟩
  | .local _ .vmem, ⟨2, _⟩ => ⟨S2x1024, .bf16⟩
  | .local _ .vmem, ⟨3, _⟩ => ⟨S2x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v17 : BitVec 32 := Scalar.addi v2 c7_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v30 : BitVec 1 := Scalar.cmpi .sgt v2 c0_i32_18
  let v31 : BitVec 32 := Scalar.extui v30
  let c0_i32_19 : BitVec 32 := 0#32
  let v32 : BitVec 1 := Scalar.cmpi .ne v31 c0_i32_19
  v32

def k0_dev3 (d0 : Dev nD) : Nat :=
  let c0_i32_1082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1078 : BitVec 32 := 1#32
  let v1156 : BitVec 32 := Scalar.subi v2 c1_i32_1078
  let c1_i32_1081 : BitVec 32 := 1#32
  let v1157 : BitVec 32 := Scalar.muli v1156 c1_i32_1081
  let v1158 : BitVec 32 := Scalar.addi c0_i32_1082 v1157
  v1158.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_20 : BitVec 32 := 7#32
  let v33 : BitVec 1 := Scalar.cmpi .slt v2 c7_i32_20
  let v34 : BitVec 32 := Scalar.extui v33
  let c0_i32_21 : BitVec 32 := 0#32
  let v35 : BitVec 1 := Scalar.cmpi .ne v34 c0_i32_21
  v35

def k0_dev4 (d0 : Dev nD) : Nat :=
  let c0_i32_1082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1078 : BitVec 32 := 1#32
  let v1156 : BitVec 32 := Scalar.addi v2 c1_i32_1078
  let c1_i32_1081 : BitVec 32 := 1#32
  let v1157 : BitVec 32 := Scalar.muli v1156 c1_i32_1081
  let v1158 : BitVec 32 := Scalar.addi c0_i32_1082 v1157
  v1158.toNat
-- ==== ReferenceIdeal.lean ====
abbrev S65536x1024 : Shape := ⟨2, ![65536, 1024]⟩
abbrev S65534x1024 : Shape := ⟨2, ![65534, 1024]⟩
abbrev S_ : Shape := ⟨0, ![]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S65534x1024, .f32⟩
  | .hbm, ⟨3, _⟩ => ⟨S_, .f32⟩
  | .hbm, ⟨4, _⟩ => ⟨S65534x1024, .f32⟩
  | .hbm, ⟨5, _⟩ => ⟨S65534x1024, .f32⟩
  | .hbm, ⟨6, _⟩ => ⟨S65534x1024, .f32⟩
  | .hbm, ⟨7, _⟩ => ⟨S_, .f32⟩
  | .hbm, ⟨8, _⟩ => ⟨S65534x1024, .f32⟩
  | .hbm, ⟨9, _⟩ => ⟨S65534x1024, .f32⟩
  | .hbm, ⟨10, _⟩ => ⟨S65534x1024, .f32⟩
  | .hbm, ⟨11, _⟩ => ⟨S65534x1024, .f32⟩
  | .hbm, ⟨12, _⟩ => ⟨S_, .f32⟩
  | .hbm, ⟨13, _⟩ => ⟨S65534x1024, .f32⟩
  | .hbm, ⟨14, _⟩ => ⟨S65534x1024, .f32⟩
  | .hbm, ⟨15, _⟩ => ⟨S65534x1024, .f32⟩
  | .hbm, ⟨16, _⟩ => ⟨S1x1024, .f32⟩
  | .hbm, ⟨17, _⟩ => ⟨S1x1024, .f32⟩
  | .hbm, ⟨18, _⟩ => ⟨S65536x1024, .f32⟩
  | .hbm, ⟨19, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Common.lean ====
/-
# The halo exchange: cells, schedule, levels

Eight devices in a line, device `c` holding rows `8192 c .. 8192 c + 8191` of the array. At entry a device signals
both its ring neighbours' barrier semaphore (one unit each) and waits for two units on its own. Then device `c > 0`
copies its first two rows (whole words: two rows of this type share a word) into `hi` of `c - 1`, and device `c < 7`
copies its last two rows into `lo` of `c + 1`.

The semaphores, per device `c`:
* the barrier: one unit from `prv c` (duty `false`), one from `nxt c` (duty `true`); `c` waits for both. The unit from
  `prv c` hands `c` the buffer `hi` of `prv c` when `c > 0` (`c` is going to write there), the unit from `nxt c` hands
  `c` the buffer `lo` of `nxt c` when `c < 7`;
* receive 0 (`c > 0`): credited by the copy of `prv c`; the landing hands over `lo` of `c` holding the last two rows of
  `prv c`'s block;
* receive 1 (`c < 7`): credited by the copy of `nxt c`; hands over `hi` of `c` holding the first two rows of `nxt c`'s block;
* send 0 (`c > 0`), send 1 (`c < 7`): credited when `c`'s own copies have been read; hand back the lent share of the
  first, the last two rows of `c`'s block.
The semaphores that complete the copies inside a device are that device's own.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline library's copy, the exchange's with duties named by `Bool`, the counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor (the right half: the counters of the local copies). -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev 𝒱₀ : Variants := Variants.none

variable (m : (ℓ : Loc nD τ sig) → Buf (Elt F) ℓ) (ρ : Dev nD → PrngReg)

/-- The machine at launch: any contents, every counter zero, any generator registers. -/
def s₀ : MemSt nD τ sig (Elt F) := ⟨m, fun _ => 0, ρ⟩

/-! ## The ring of devices -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

theorem nxt_pos (c : Dev nD) : 0 < (nxt c).val ↔ c.val < 7 := by revert c; decide
theorem prv_lt (c : Dev nD) : (prv c).val < 7 ↔ 0 < c.val := by revert c; decide

theorem dev1_eq (c : Dev nD) : (⟨k0_dev1 c, k0_dev1_lt c⟩ : Dev nD) = nxt c := by
  have h : ∀ c : Dev nD, k0_dev1 c = (nxt c).val := by decide +kernel
  exact Fin.ext (h c)
theorem dev2_eq (c : Dev nD) : (⟨k0_dev2 c, k0_dev2_lt c⟩ : Dev nD) = prv c := by
  have h : ∀ c : Dev nD, k0_dev2 c = (prv c).val := by decide +kernel
  exact Fin.ext (h c)
theorem dev3_eq (c : Dev nD) (h : k0_cond1 c = 1#1) : (⟨k0_dev3 c, k0_dev3_lt c h⟩ : Dev nD) = prv c := by
  have h' : ∀ c : Dev nD, k0_cond1 c = 1#1 → k0_dev3 c = (prv c).val := by decide +kernel
  exact Fin.ext (h' c h)
theorem dev4_eq (c : Dev nD) (h : k0_cond2 c = 1#1) : (⟨k0_dev4 c, k0_dev4_lt c h⟩ : Dev nD) = nxt c := by
  have h' : ∀ c : Dev nD, k0_cond2 c = 1#1 → k0_dev4 c = (nxt c).val := by decide +kernel
  exact Fin.ext (h' c h)

/-! ## Buffers and cells -/

abbrev xM : Memref sig .tc .hbm S8192x1024 .bf16 := Memref.whole main_arg0
abbrev yM : Memref sig .tc .hbm S8192x1024 .bf16 := Memref.whole main_v1
abbrev xbM : Memref sig .tc .vmem S8x512x1024 .bf16 := Memref.whole cc0_scratch0
abbrev obM : Memref sig .tc .vmem S4x512x1024 .bf16 := Memref.whole cc0_scratch1
abbrev loM : Memref sig .tc .vmem S2x1024 .bf16 := Memref.whole cc0_scratch2
abbrev hiM : Memref sig .tc .vmem S2x1024 .bf16 := Memref.whole cc0_scratch3

/-- The first and the last two rows of a device's block. -/
abbrev rowF : Memref sig .tc .hbm S2x1024 .bf16 :=
  xM.slice (Rect.unit (s := S8192x1024) ![0, 0] S2x1024.size inb_S8192x1024_S2x1024_0_0) (fun _ => rfl)
abbrev rowL : Memref sig .tc .hbm S2x1024 .bf16 :=
  xM.slice (Rect.unit (s := S8192x1024) ![8190, 0] S2x1024.size inb_S8192x1024_S2x1024_8190_0) (fun _ => rfl)

abbrev barS : Sem sig := (SemArray.scalar (sig.barrier 0 rfl) : Sems sig S_).sem
abbrev snd0 : DmaSems sig S_ := (cc0_scratch6.slice (Rect.unit (s := S2) ![0] S1.size inb_S2_S1_0)).squeeze S_ squeezes_S1_S_
abbrev snd1 : DmaSems sig S_ := (cc0_scratch6.slice (Rect.unit (s := S2) ![1] S1.size inb_S2_S1_1)).squeeze S_ squeezes_S1_S_
abbrev rcv0 : DmaSems sig S_ := (cc0_scratch7.slice (Rect.unit (s := S2) ![0] S1.size inb_S2_S1_0)).squeeze S_ squeezes_S1_S_
abbrev rcv1 : DmaSems sig S_ := (cc0_scratch7.slice (Rect.unit (s := S2) ![1] S1.size inb_S2_S1_1)).squeeze S_ squeezes_S1_S_

abbrev barCell (c : Dev nD) : GSem nD τ sig := ((c : Thread nD τ), .reg barS)
abbrev snd0Cell (c : Dev nD) : GSem nD τ sig := ((c : Thread nD τ), .dma snd0.sem)
abbrev snd1Cell (c : Dev nD) : GSem nD τ sig := ((c : Thread nD τ), .dma snd1.sem)
abbrev rcv0Cell (c : Dev nD) : GSem nD τ sig := ((c : Thread nD τ), .dma rcv0.sem)
abbrev rcv1Cell (c : Dev nD) : GSem nD τ sig := ((c : Thread nD τ), .dma rcv1.sem)

/-- The five of the exchange, as this proof indexes them. -/
abbrev csem : Fin 5 → SemLoc sig := fun
  | 0 => .reg barS | 1 => .dma snd0.sem | 2 => .dma snd1.sem | 3 => .dma rcv0.sem | 4 => .dma rcv1.sem
abbrev kcell (ck : Dev nD × Fin 5) : GSem nD τ sig := ((ck.1 : Thread nD τ), csem ck.2)
theorem csem_inj : Function.Injective csem := by decide

/-- The credit of one copy between devices. -/
abbrev N : ℕ := (loM : Memref sig .tc .vmem S2x1024 .bf16).view.dmaCredit
theorem N_pos : 0 < N := View.dmaCredit_pos _ (by decide)

/-! ## Contents -/

/-- Device `c`'s block of the array, at launch. -/
abbrev XA (c : Dev nD) : Buf (Elt F) ((c : Thread nD τ).loc main_arg0) := m ((c : Thread nD τ).loc main_arg0)

/-- What lands in `lo` of `c`: the last two rows of the block before; in `hi` of `c`: the first two of the block after. -/
def landLo (c : Dev nD) : Buf (Elt F) ((loM : Memref sig .tc .vmem S2x1024 .bf16).view.loc (c : Thread nD τ)) :=
  (rowL : Memref sig .tc .hbm S2x1024 .bf16).view.read (Elt F) (XA m (prv c))
def landHi (c : Dev nD) : Buf (Elt F) ((hiM : Memref sig .tc .vmem S2x1024 .bf16).view.loc (c : Thread nD τ)) :=
  (rowF : Memref sig .tc .hbm S2x1024 .bf16).view.read (Elt F) (XA m (nxt c))

abbrev loP (c : Dev nD) (f : Buf (Elt F) ((loM : Memref sig .tc .vmem S2x1024 .bf16).view.loc (c : Thread nD τ))) : sProp 𝕄 :=
  (loM : Memref sig .tc .vmem S2x1024 .bf16).view.loc (c : Thread nD τ) ↦[(loM : Memref sig .tc .vmem S2x1024 .bf16).view.set]{fullShare} f
abbrev hiP (c : Dev nD) (f : Buf (Elt F) ((hiM : Memref sig .tc .vmem S2x1024 .bf16).view.loc (c : Thread nD τ))) : sProp 𝕄 :=
  (hiM : Memref sig .tc .vmem S2x1024 .bf16).view.loc (c : Thread nD τ) ↦[(hiM : Memref sig .tc .vmem S2x1024 .bf16).view.set]{fullShare} f

/-- The two halves of the full share: the copies inside the device read the left one, the copies to the neighbours
    the right one. -/
abbrev qL : PosShare TreeShare := PosShare.left fullShare
abbrev qR : PosShare TreeShare := PosShare.right fullShare

abbrev rowFP (c : Dev nD) : sProp 𝕄 :=
  (rowF : Memref sig .tc .hbm S2x1024 .bf16).view.loc (c : Thread nD τ) ↦[(rowF : Memref sig .tc .hbm S2x1024 .bf16).view.set]{qR} XA m c
abbrev rowLP (c : Dev nD) : sProp 𝕄 :=
  (rowL : Memref sig .tc .hbm S2x1024 .bf16).view.loc (c : Thread nD τ) ↦[(rowL : Memref sig .tc .hbm S2x1024 .bf16).view.set]{qR} XA m c

/-! ## The schedule: one round -/

/-- What the unit from `prv c` hands `c`, and the unit from `nxt c`. -/
def payF (c : Dev nD) : sProp 𝕄 := if 0 < c.val then iprop(∃ f, hiP (F := F) (prv c) f) else iprop(emp)
def payT (c : Dev nD) : sProp 𝕄 := if c.val < 7 then iprop(∃ f, loP (F := F) (nxt c) f) else iprop(emp)

omit [FloatOps F] in
instance payF_storable (c : Dev nD) : BI.Storable (upEmb : UEmb _ 𝕄) (payF (F := F) c) := by unfold payF; split <;> infer_instance
omit [FloatOps F] in
instance payT_storable (c : Dev nD) : BI.Storable (upEmb : UEmb _ 𝕄) (payT (F := F) c) := by unfold payT; split <;> infer_instance

abbrev IsBar (g : GSem nD τ sig) : Prop := g.1.2 = .tc ∧ g.2 = .reg barS
/-- The cells with one copy: those of the first row want a device before, those of the last a device after. -/
abbrev IsCopy (g : GSem nD τ sig) : Prop :=
  g.1.2 = .tc ∧ (((g.2 = .dma snd0.sem ∨ g.2 = .dma rcv0.sem) ∧ 0 < g.1.1.val) ∨ ((g.2 = .dma snd1.sem ∨ g.2 = .dma rcv1.sem) ∧ g.1.1.val < 7))

/-- Round 0: the barrier cell has the duties `false` and `true` of one unit, a cell with a copy the duty `false` of the
    copy's credit. -/
def sched : Rounds.Schedule (GSem nD τ sig) Bool 𝕄 where
  duties g r := if r = 0 ∧ IsBar g then Finset.univ else if r = 0 ∧ IsCopy g then {false} else ∅
  unitless _ := False
  amount g _ _ := if g.2 = .reg barS then 1 else N
  payload g _ d :=
    if g.2 = .reg barS then (if d then payT g.1.1 else payF g.1.1)
    else if g.2 = .dma rcv0.sem then loP g.1.1 (landLo m g.1.1)
    else if g.2 = .dma rcv1.sem then hiP g.1.1 (landHi m g.1.1)
    else if g.2 = .dma snd0.sem then rowFP m g.1.1
    else if g.2 = .dma snd1.sem then rowLP m g.1.1
    else iprop(emp)
  amount_pos g _ _ _ := by
    by_cases h : g.2 = .reg barS
    · rw [if_pos h]; exact Nat.one_pos
    · rw [if_neg h]; exact N_pos

instance sched_storable (g : GSem nD τ sig) (r : ℕ) (d : Bool) :
    BI.Storable (upEmb : UEmb _ 𝕄) ((sched (F := F) m).payload g r d) := by
  show BI.Storable upEmb (if g.2 = .reg barS then (if d then payT g.1.1 else payF g.1.1)
    else if g.2 = .dma rcv0.sem then loP g.1.1 (landLo m g.1.1)
    else if g.2 = .dma rcv1.sem then hiP g.1.1 (landHi m g.1.1)
    else if g.2 = .dma snd0.sem then rowFP m g.1.1
    else if g.2 = .dma snd1.sem then rowLP m g.1.1
    else iprop(emp))
  (repeat' split) <;> infer_instance

section Tables
variable (c : Dev nD)

theorem ne_bar (s : DmaSem sig) : (SemLoc.dma s : SemLoc sig) ≠ .reg barS := fun h => by cases h
theorem r0_r1 : (SemLoc.dma rcv1.sem : SemLoc sig) ≠ .dma rcv0.sem := by decide
theorem s0_r0 : (SemLoc.dma snd0.sem : SemLoc sig) ≠ .dma rcv0.sem := by decide
theorem s0_r1 : (SemLoc.dma snd0.sem : SemLoc sig) ≠ .dma rcv1.sem := by decide
theorem s1_r0 : (SemLoc.dma snd1.sem : SemLoc sig) ≠ .dma rcv0.sem := by decide
theorem s1_r1 : (SemLoc.dma snd1.sem : SemLoc sig) ≠ .dma rcv1.sem := by decide
theorem s1_s0 : (SemLoc.dma snd1.sem : SemLoc sig) ≠ .dma snd0.sem := by decide
theorem s0_s1 : (SemLoc.dma snd0.sem : SemLoc sig) ≠ .dma snd1.sem := by decide
theorem r0_s1 : (SemLoc.dma rcv0.sem : SemLoc sig) ≠ .dma snd1.sem := by decide
theorem r0_r1' : (SemLoc.dma rcv0.sem : SemLoc sig) ≠ .dma rcv1.sem := by decide
theorem r1_s0 : (SemLoc.dma rcv1.sem : SemLoc sig) ≠ .dma snd0.sem := by decide

omit [FloatOps F] in
theorem duties_bar : (sched (F := F) m).duties (barCell c) 0 = Finset.univ := by dsimp only [sched]; exact if_pos ⟨rfl, rfl, rfl⟩
omit [FloatOps F] in
theorem duties_snd0 (h : 0 < c.val) : (sched (F := F) m).duties (snd0Cell c) 0 = {false} := by
  dsimp only [sched]; rw [if_neg (fun h => ne_bar _ h.2.2)]; exact if_pos ⟨rfl, rfl, .inl ⟨.inl rfl, h⟩⟩
omit [FloatOps F] in
theorem duties_rcv0 (h : 0 < c.val) : (sched (F := F) m).duties (rcv0Cell c) 0 = {false} := by
  dsimp only [sched]; rw [if_neg (fun h => ne_bar _ h.2.2)]; exact if_pos ⟨rfl, rfl, .inl ⟨.inr rfl, h⟩⟩
omit [FloatOps F] in
theorem duties_snd1 (h : c.val < 7) : (sched (F := F) m).duties (snd1Cell c) 0 = {false} := by
  dsimp only [sched]; rw [if_neg (fun h => ne_bar _ h.2.2)]; exact if_pos ⟨rfl, rfl, .inr ⟨.inl rfl, h⟩⟩
omit [FloatOps F] in
theorem duties_rcv1 (h : c.val < 7) : (sched (F := F) m).duties (rcv1Cell c) 0 = {false} := by
  dsimp only [sched]; rw [if_neg (fun h => ne_bar _ h.2.2)]; exact if_pos ⟨rfl, rfl, .inr ⟨.inr rfl, h⟩⟩
omit [FloatOps F] in
theorem duties_later (g : GSem nD τ sig) : ∀ r, 1 ≤ r → (sched (F := F) m).duties g r = ∅ :=
  fun r hr => by dsimp only [sched]; rw [if_neg fun h => by omega, if_neg fun h => by omega]
/-- The cells at the ends of the line without a copy have no duty at any round. -/
theorem no_copy0 (s : DmaSem sig) (hs : SemLoc.dma s = .dma snd0.sem ∨ SemLoc.dma s = .dma rcv0.sem) (h : ¬ 0 < c.val) :
    ¬ IsCopy ((c : Thread nD τ), .dma s) := by
  rintro ⟨-, ⟨-, h'⟩ | ⟨h' | h', -⟩⟩
  · exact h h'
  · rcases hs with hs | hs <;> rw [hs] at h'; exacts [s0_s1 h', r0_s1 h']
  · rcases hs with hs | hs <;> rw [hs] at h'; exacts [s0_r1 h', r0_r1' h']
theorem no_copy1 (s : DmaSem sig) (hs : SemLoc.dma s = .dma snd1.sem ∨ SemLoc.dma s = .dma rcv1.sem) (h : ¬ c.val < 7) :
    ¬ IsCopy ((c : Thread nD τ), .dma s) := by
  rintro ⟨-, ⟨h' | h', -⟩ | ⟨-, h'⟩⟩
  · rcases hs with hs | hs <;> rw [hs] at h'; exacts [s1_s0 h', r1_s0 h']
  · rcases hs with hs | hs <;> rw [hs] at h'; exacts [s1_r0 h', r0_r1 h']
  · exact h h'
omit [FloatOps F] in
theorem duties_none (s : DmaSem sig) (h : ¬ IsCopy ((c : Thread nD τ), .dma s)) :
    ∀ r, 0 ≤ r → (sched (F := F) m).duties ((c : Thread nD τ), .dma s) r = ∅ :=
  fun r _ => by dsimp only [sched]; rw [if_neg fun h' => ne_bar _ h'.2.2, if_neg fun h' => h h'.2]

omit [FloatOps F] in
theorem amount_bar (d : Bool) : (sched (F := F) m).amount (barCell c) 0 d = 1 := by dsimp only [sched]; exact if_pos rfl
omit [FloatOps F] in
theorem amount_dma (s : DmaSem sig) (d : Bool) : (sched (F := F) m).amount ((c : Thread nD τ), .dma s) 0 d = N := by
  dsimp only [sched]; exact if_neg (ne_bar _)

omit [FloatOps F] in
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_one (s : DmaSem sig) (h : (sched (F := F) m).duties ((c : Thread nD τ), .dma s) 0 = {false}) :
    (sched (F := F) m).expect ((c : Thread nD τ), .dma s) 0 = N := by
  unfold Schedule.expect Schedule.amountOf; rw [h, Finset.sum_singleton, amount_dma]

omit [FloatOps F] in
theorem payload_bar (d : Bool) : (sched (F := F) m).payload (barCell c) 0 d = if d then payT c else payF c := by
  dsimp only [sched]; rw [if_pos rfl]
omit [FloatOps F] in
theorem payload_rcv0 (d : Bool) : (sched (F := F) m).payload (rcv0Cell c) 0 d = loP c (landLo m c) := by
  dsimp only [sched]; rw [if_neg (ne_bar _), if_pos rfl]
omit [FloatOps F] in
theorem payload_rcv1 (d : Bool) : (sched (F := F) m).payload (rcv1Cell c) 0 d = hiP c (landHi m c) := by
  dsimp only [sched]; rw [if_neg (ne_bar _), if_neg r0_r1, if_pos rfl]
omit [FloatOps F] in
theorem payload_snd0 (d : Bool) : (sched (F := F) m).payload (snd0Cell c) 0 d = rowFP m c := by
  dsimp only [sched]; rw [if_neg (ne_bar _), if_neg s0_r0, if_neg s0_r1, if_pos rfl]
omit [FloatOps F] in
theorem payload_snd1 (d : Bool) : (sched (F := F) m).payload (snd1Cell c) 0 d = rowLP m c := by
  dsimp only [sched]; rw [if_neg (ne_bar _), if_neg s1_r0, if_neg s1_r1, if_neg s1_s0, if_pos rfl]

omit [FloatOps F] in
theorem rest_bar : bigSep ((sched (F := F) m).duties (barCell c) 0 \ ∅) (fun d => (sched (F := F) m).payload (barCell c) 0 d) = iprop(payF c ∗ payT c) := by
  rw [Finset.sdiff_empty, duties_bar, bigSep_univ_eq_bigSepL [false, true] (by decide) (by decide), bigSepL_cons_cons, bigSepL_singleton,
    payload_bar, payload_bar]
  rfl
omit [FloatOps F] in
theorem rest_one (s : DmaSem sig) (h : (sched (F := F) m).duties ((c : Thread nD τ), .dma s) 0 = {false}) (P : sProp 𝕄)
    (hP : (sched (F := F) m).payload ((c : Thread nD τ), .dma s) 0 false = P) :
    bigSep ((sched (F := F) m).duties ((c : Thread nD τ), .dma s) 0 \ ∅) (fun d => (sched (F := F) m).payload ((c : Thread nD τ), .dma s) 0 d) = P := by
  rw [Finset.sdiff_empty, h, bigSep_singleton, hP]

end Tables

/-! ## What a device owes at launch; the levels -/

/-- The credits of its neighbours' receive cells, where there is a neighbour. -/
def O₂ (c : Dev nD) : CellTallies nD τ sig Unit :=
  (if c.val < 7 then tallyAt (rcv0Cell (nxt c)) () N else 0) + (if 0 < c.val then tallyAt (rcv1Cell (prv c)) () N else 0)
/-- At launch also one unit to both neighbours' barrier cells. -/
def O₀ (c : Dev nD) : CellTallies nD τ sig Unit := O₂ c + tallyAt (barCell (prv c)) () 1 + tallyAt (barCell (nxt c)) () 1

def L (g : GSem nD τ sig) : Finset Unit := if g.1.2 = .tc then {()} else ∅
/-- The barrier cells lie below the receive cells, everything else below both. -/
def lv (g : GSem nD τ sig) (_ : Unit) : ℕ :=
  if g.2 = .reg barS then 1 else if g.2 = .dma rcv0.sem ∨ g.2 = .dma rcv1.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = rcv0Cell (nxt c) ∨ g = rcv1Cell (prv c) := by
  unfold O₂ at h
  rw [Pi.add_apply, Finsupp.add_apply] at h
  by_contra hn
  rw [not_or] at hn
  have h0 : (if c.val < 7 then tallyAt (rcv0Cell (nxt c)) () N else 0 : CellTallies nD τ sig Unit) g u = 0 := by
    split
    · rw [tallyAt_apply, if_neg (fun h' => hn.1 h'.1)]
    · rfl
  have h1 : (if 0 < c.val then tallyAt (rcv1Cell (prv c)) () N else 0 : CellTallies nD τ sig Unit) g u = 0 := by
    split
    · rw [tallyAt_apply, if_neg (fun h' => hn.2 h'.1)]
    · rfl
  rw [h0, h1] at h
  exact Nat.lt_irrefl 0 h

theorem O₀_pos {c : Dev nD} {g : GSem nD τ sig} {u : Unit} (h : 0 < O₀ c g u) :
    (g = rcv0Cell (nxt c) ∨ g = rcv1Cell (prv c)) ∨ g = barCell (prv c) ∨ g = barCell (nxt c) := by
  unfold O₀ at h
  rw [Pi.add_apply, Finsupp.add_apply, Pi.add_apply, Finsupp.add_apply, tallyAt_apply, tallyAt_apply] at h
  by_contra hn
  rw [not_or, not_or (p := g = barCell (prv c))] at hn
  have h0 : O₂ c g u = 0 := by by_contra h'; exact hn.1 (O₂_pos (Nat.pos_of_ne_zero h'))
  rw [h0, if_neg (fun h' => hn.2.1 h'.1), if_neg (fun h' => hn.2.2 h'.1)] at h
  exact Nat.lt_irrefl 0 h

theorem lv_rcv (c : Dev nD) (g : GSem nD τ sig) (h : g = rcv0Cell (nxt c) ∨ g = rcv1Cell (prv c)) : lv g () = 2 := by
  rcases h with rfl | rfl
  · dsimp only [lv]; rw [if_neg (ne_bar _), if_pos (.inl rfl)]
  · dsimp only [lv]; rw [if_neg (ne_bar _), if_pos (.inr rfl)]

omit [FloatOps F] in
/-- At its barrier wait a device owes receive credits only. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by
      rcases O₂_pos hg with rfl | rfl <;> exact Finset.mem_singleton_self _)
    (fun p hp => by rw [Finset.mem_singleton.mp hp]; dsimp only [lv]; rw [if_pos rfl])
    (fun g u hg => by rw [lv_rcv c g (O₂_pos hg)]; decide)

/-! ## The exchange's ghost state -/

/-- The cells' invariants device `c` opens, under names `K`: its own five, both neighbours' barrier cells, and the
    receive cells its copies credit. -/
def invs (K : Dev nD × Fin 5 → ℕ) (c : Dev nD) : sProp 𝕄 :=
  iprop(cellInv ER (sched m) (K (c, 0)) (barCell c)
    ∗ cellInv ER (sched m) (K (c, 1)) (snd0Cell c) ∗ cellInv ER (sched m) (K (c, 2)) (snd1Cell c)
    ∗ cellInv ER (sched m) (K (c, 3)) (rcv0Cell c) ∗ cellInv ER (sched m) (K (c, 4)) (rcv1Cell c)
    ∗ cellInv ER (sched m) (K (nxt c, 0)) (barCell (nxt c)) ∗ cellInv ER (sched m) (K (prv c, 0)) (barCell (prv c))
    ∗ cellInv ER (sched m) (K (nxt c, 3)) (rcv0Cell (nxt c)) ∗ cellInv ER (sched m) (K (prv c, 4)) (rcv1Cell (prv c)))

instance invs_persistent (K : Dev nD × Fin 5 → ℕ) (c : Dev nD) : BI.Persistent (invs m K c) := by unfold invs; infer_instance

/-- What device `c` starts from: the invariants, its positions, the rounds reached, the tokens it pays with. -/
def ghost (K : Dev nD × Fin 5 → ℕ) (c : Dev nD) : sProp 𝕄 :=
  iprop(invs m K c
    ∗ (atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)
    ∗ (reached ER (barCell (nxt c)) 0 ∗ reached ER (barCell (prv c)) 0 ∗ reached ER (rcv0Cell (nxt c)) 0 ∗ reached ER (rcv1Cell (prv c)) 0
        ∗ reached ER (snd0Cell c) 0 ∗ reached ER (snd1Cell c) 0)
    ∗ (dutyTok ER (barCell (nxt c)) 0 false ∗ dutyTok ER (barCell (prv c)) 0 true
        ∗ dutyTok ER (rcv0Cell (nxt c)) 0 false ∗ dutyTok ER (rcv1Cell (prv c)) 0 false
        ∗ dutyTok ER (snd0Cell c) 0 false ∗ dutyTok ER (snd1Cell c) 0 false))

end Cert.Halo

end
-- ==== Proof.Pro.lean ====
/-
# The entry: the barrier and the two copies to the neighbours
-/
module

public import proofs.«01_k».proof.Proof.Common

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The buffer no neighbour writes: `lo` of the first device, `hi` of the last. -/
def keepLo (c : Dev nD) : sProp 𝕄 := if 0 < c.val then iprop(emp) else iprop(∃ f, loP (F := F) c f)
def keepHi (c : Dev nD) : sProp 𝕄 := if c.val < 7 then iprop(emp) else iprop(∃ f, hiP (F := F) c f)

omit [FloatOps F] in
theorem give_hi (c : Dev nD) : iprop(∃ f, hiP (F := F) c f) ⊢ iprop(payF (nxt c) ∗ keepHi c) := by
  unfold payF keepHi
  by_cases h : c.val < 7
  · rw [if_pos ((nxt_pos c).mpr h), if_pos h, prv_nxt]
    iintro H; isplitl [H]; · iexact H
    iempintro
  · rw [if_neg (fun h' => h ((nxt_pos c).mp h')), if_neg h]
    iintro H; isplitr; · iempintro
    iexact H
omit [FloatOps F] in
theorem give_lo (c : Dev nD) : iprop(∃ f, loP (F := F) c f) ⊢ iprop(payT (prv c) ∗ keepLo c) := by
  unfold payT keepLo
  by_cases h : 0 < c.val
  · rw [if_pos ((prv_lt c).mpr h), if_pos h, nxt_prv]
    iintro H; isplitl [H]; · iexact H
    iempintro
  · rw [if_neg (fun h' => h ((prv_lt c).mp h')), if_neg h]
    iintro H; isplitr; · iempintro
    iexact H

/-- The entry barrier: one unit to either neighbour, with the buffer it writes, and two waited for. -/
theorem part1_run (K : Dev nD × Fin 5 → ℕ) (c : Dev nD) (W : Waits sig Unit)
    (Q : (Σ' (d0 : Dev nD) (v2 : BitVec 32), BitVec 1) → sProp 𝕄) :
    iprop(invs m K c ∗ atPos ER (barCell c) 0 ∅ 0 ∗ reached ER (barCell (nxt c)) 0 ∗ reached ER (barCell (prv c)) 0
        ∗ dutyTok ER (barCell (nxt c)) 0 false ∗ dutyTok ER (barCell (prv c)) 0 true
        ∗ cred (tallyAt (barCell c) () 2) ∗ levAts L lv ∗ (∃ f, loP c f) ∗ (∃ f, hiP c f) ∗ owes (c : Thread nD τ) (O₀ c) W
        ∗ ((atPos ER (barCell c) 1 ∅ 0 ∗ payF c ∗ payT c ∗ keepLo c ∗ keepHi c
              ∗ owes (c : Thread nD τ) (O₂ c) (insert (SemLoc.reg barS, ()) W))
            -∗ Q ⟨c, Scalar.remsi (Scalar.divsi (Dev.word c) 1#32) 8#32, Scalar.cmpi .sgt (Scalar.remsi (Scalar.divsi (Dev.word c) 1#32) 8#32) 0#32⟩))
      ⊢ wp frame (wpE (defs₀ (F := F)) 𝒱₀ (c : Thread nD τ) none) Set.univ
          (k0_part1 xM (Memref.isWhole_whole _) yM (Memref.isWhole_whole _) xbM (Memref.isWhole_whole _) obM (Memref.isWhole_whole _)
            loM (Memref.isWhole_whole _) hiM (Memref.isWhole_whole _) cc0_scratch4 cc0_scratch5 cc0_scratch6 cc0_scratch7) Q := by
  simp only [k0_part1_eq_skeleton]; unfold k0_part1_skel
  simp only [semSignalWord, semWaitWord, Prog.lift, Prog.bind_op, Prog.bind_ret, Prog.pure_eq_ret, wp_deviceId]
  unfold invs
  iintro ⟨⟨#HIbar, -, -, -, -, #HIbarN, #HIbarP, -, -⟩, HatB, #HrBN, #HrBP, HtBN, HtBP, HcB, #Hlev, Hlo, Hhi, HO, Hk⟩
  ihave Hhi' := (give_hi c) $$ Hhi
  ihave Hlo' := (give_lo c) $$ Hlo
  icases Hhi' with ⟨HpN, HkH⟩
  icases Hlo' with ⟨HpP, HkL⟩
  simp only [dev1_eq c, dev2_eq c]
  unfold O₀
  iapply (Rounds.wp_signal 𝒱₀ ER (sched m) (c : Thread nD τ) none (dst := (nxt c : Thread nD τ)) (κ := K (nxt c, 0))
      (d := false) (by rw [duties_bar]; exact Finset.mem_univ _) ((amount_bar m (nxt c) false).trans (by decide)) () (O₂ c + tallyAt (barCell (prv c)) () 1) rfl)
    $$ [HO HtBN HpN]
  · isplitr; · iexact HIbarN
    isplitl [HO]; · iexact HO
    isplitl [HtBN]; · iexact HtBN
    isplitl [HpN]; · rw [payload_bar, if_neg Bool.false_ne_true]; iexact HpN
    iexact HrBN
  iintro HO
  iapply (Rounds.wp_signal 𝒱₀ ER (sched m) (c : Thread nD τ) none (dst := (prv c : Thread nD τ)) (κ := K (prv c, 0))
      (d := true) (by rw [duties_bar]; exact Finset.mem_univ _) ((amount_bar m (prv c) true).trans (by decide)) () (O₂ c) rfl)
    $$ [HO HtBP HpP]
  · isplitr; · iexact HIbarP
    isplitl [HO]; · iexact HO
    isplitl [HtBP]; · iexact HtBP
    isplitl [HpP]; · rw [payload_bar, if_pos rfl]; iexact HpP
    iexact HrBP
  iintro HO
  iapply (Rounds.wp_wait_rest_token 𝒱₀ ER (sched m) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨HpF, HpT⟩
  rw [wp_ret]; imodintro
  iapply Hk
  isplitl [HatB]; · iexact HatB
  isplitl [HpF]; · iexact HpF
  isplitl [HpT]; · iexact HpT
  isplitl [HkL]; · iexact HkL
  isplitl [HkH]; · iexact HkH
  iexact HO

omit [FloatOps F] in
theorem landed_hi (c : Dev nD) (fd : Buf (Elt F) ((hiM : Memref sig .tc .vmem S2x1024 .bf16).view.loc (prv c : Thread nD τ))) :
    (hiM : Memref sig .tc .vmem S2x1024 .bf16).view.write (Elt F) fd ((rowF : Memref sig .tc .hbm S2x1024 .bf16).view.read (Elt F) (XA m c)) Finset.univ = landHi m (prv c) := by
  refine (View.write_whole_univ cc0_scratch3 _ _).trans ?_
  unfold landHi
  rw [nxt_prv]
omit [FloatOps F] in
theorem landed_lo (c : Dev nD) (fd : Buf (Elt F) ((loM : Memref sig .tc .vmem S2x1024 .bf16).view.loc (nxt c : Thread nD τ))) :
    (loM : Memref sig .tc .vmem S2x1024 .bf16).view.write (Elt F) fd ((rowL : Memref sig .tc .hbm S2x1024 .bf16).view.read (Elt F) (XA m c)) Finset.univ = landLo m (nxt c) := by
  refine (View.write_whole_univ cc0_scratch2 _ _).trans ?_
  unfold landLo
  rw [prv_nxt]

/-- The first two rows to `hi` of the device before, owing `O` besides. -/
theorem send_hi (K : Dev nD × Fin 5 → ℕ) (c n : Dev nD) (hn : n = prv c) (h0 : 0 < c.val)
    {hsc : (hiM : Memref sig (Dev.tc n : Thread nD τ).2.kind .vmem S2x1024 .bf16).view.ref.isScScratch = false}
    {hsrc : (rowF : Memref sig .tc .hbm S2x1024 .bf16).view.WordExact} {hdst : (hiM : Memref sig .tc .vmem S2x1024 .bf16).view.WordExact}
    {hsem : DmaTarget.Typed .hbm (.dma rcv1.sem) (.remote (Dev.tc n : Thread nD τ) (hiM : Memref sig .tc .vmem S2x1024 .bf16) (.dma snd0.sem) hsc)}
    {α : Type} {Q : α → sProp 𝕄} {k : PUnit → Prog (TpuEff nD τ sig (Elt F) Λ₀ .tc) α}
    (O : CellTallies nD τ sig Unit) (W : Waits sig Unit) :
    iprop(invs m K c ∗ rowFP m c ∗ payF c
        ∗ owes (c : Thread nD τ) (O + tallyAt (rcv1Cell (prv c)) () N) W
        ∗ dutyTok ER (snd0Cell c) 0 false ∗ reached ER (snd0Cell c) 0
        ∗ dutyTok ER (rcv1Cell (prv c)) 0 false ∗ reached ER (rcv1Cell (prv c)) 0)
      ⊢ iprop(((cred (tallyAt (snd0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowF (.remote (Dev.tc n : Thread nD τ) hiM (.dma snd0.sem) hsc) (.dma rcv1.sem) hsrc hdst hsem) k) Q) := by
  subst hn
  have hd : (prv c).val < 7 := (prv_lt c).mpr h0
  unfold payF invs
  rw [if_pos h0]
  iintro ⟨⟨-, #HI1, -, -, -, -, -, -, #HI2⟩, HX, ⟨%fn, Hd⟩, HO, Ht1, #Hr1, Ht2, #Hr2⟩ Hk
  iapply (Rounds.wp_send_pointsTo 𝒱₀ ER (sched m) (c : Thread nD τ) none (κ₁ := K (c, 1)) (κ₂ := K (prv c, 4))
    (r₁ := 0) (r₂ := 0) (d₁ := false) (d₂ := false) (fd := fn)
    (by rw [duties_snd0 m c h0]; exact Finset.mem_singleton_self _) (by rw [duties_rcv1 m (prv c) hd]; exact Finset.mem_singleton_self _)
    () () N rfl (amount_dma m c _ false) (amount_dma m (prv c) _ false) O rfl (W := W)
    (by rw [payload_snd0])
    (by rw [payload_rcv1, landed_hi])) $$ [HX Hd HO Ht1 Ht2]
  · isplitr; · iexact HI1
    isplitr; · iexact HI2
    isplitl [HX]; · iexact HX
    isplitl [Hd]; · iexact Hd
    isplitl [HO]; · iexact HO
    isplitl [Ht1]; · iexact Ht1
    isplitr; · iexact Hr1
    isplitl [Ht2]; · iexact Ht2
    iexact Hr2
  iintro H
  iapply Hk
  iexact H

/-- The last two rows to `lo` of the device after. -/
theorem send_lo (K : Dev nD × Fin 5 → ℕ) (c n : Dev nD) (hn : n = nxt c) (h7 : c.val < 7)
    {hsc : (loM : Memref sig (Dev.tc n : Thread nD τ).2.kind .vmem S2x1024 .bf16).view.ref.isScScratch = false}
    {hsrc : (rowL : Memref sig .tc .hbm S2x1024 .bf16).view.WordExact} {hdst : (loM : Memref sig .tc .vmem S2x1024 .bf16).view.WordExact}
    {hsem : DmaTarget.Typed .hbm (.dma rcv0.sem) (.remote (Dev.tc n : Thread nD τ) (loM : Memref sig .tc .vmem S2x1024 .bf16) (.dma snd1.sem) hsc)}
    {α : Type} {Q : α → sProp 𝕄} {k : PUnit → Prog (TpuEff nD τ sig (Elt F) Λ₀ .tc) α}
    (O : CellTallies nD τ sig Unit) (W : Waits sig Unit) :
    iprop(invs m K c ∗ rowLP m c ∗ payT c
        ∗ owes (c : Thread nD τ) (O + tallyAt (rcv0Cell (nxt c)) () N) W
        ∗ dutyTok ER (snd1Cell c) 0 false ∗ reached ER (snd1Cell c) 0
        ∗ dutyTok ER (rcv0Cell (nxt c)) 0 false ∗ reached ER (rcv0Cell (nxt c)) 0)
      ⊢ iprop(((cred (tallyAt (snd1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowL (.remote (Dev.tc n : Thread nD τ) loM (.dma snd1.sem) hsc) (.dma rcv0.sem) hsrc hdst hsem) k) Q) := by
  subst hn
  have hd : 0 < (nxt c).val := (nxt_pos c).mpr h7
  unfold payT invs
  rw [if_pos h7]
  iintro ⟨⟨-, -, #HI1, -, -, -, -, #HI2, -⟩, HX, ⟨%fn, Hd⟩, HO, Ht1, #Hr1, Ht2, #Hr2⟩ Hk
  iapply (Rounds.wp_send_pointsTo 𝒱₀ ER (sched m) (c : Thread nD τ) none (κ₁ := K (c, 2)) (κ₂ := K (nxt c, 3))
    (r₁ := 0) (r₂ := 0) (d₁ := false) (d₂ := false) (fd := fn)
    (by rw [duties_snd1 m c h7]; exact Finset.mem_singleton_self _) (by rw [duties_rcv0 m (nxt c) hd]; exact Finset.mem_singleton_self _)
    () () N rfl (amount_dma m c _ false) (amount_dma m (nxt c) _ false) O rfl (W := W)
    (by rw [payload_snd1])
    (by rw [payload_rcv0, landed_lo])) $$ [HX Hd HO Ht1 Ht2]
  · isplitr; · iexact HI1
    isplitr; · iexact HI2
    isplitl [HX]; · iexact HX
    isplitl [Hd]; · iexact Hd
    isplitl [HO]; · iexact HO
    isplitl [Ht1]; · iexact Ht1
    isplitr; · iexact Hr1
    isplitl [Ht2]; · iexact Ht2
    iexact Hr2
  iintro H
  iapply Hk
  iexact H

end Cert.Halo

end
-- ==== Proof.Win.lean ====
/-
# The windows of the copies inside a device
-/
module

public import proofs.«01_k».proof.Proof.Pro

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The windows of the copies inside a device -/

abbrev xin (o : ℕ) (h : ∀ a : Fin 2, (![o, 0] : Fin 2 → ℕ) a + S512x1024.size a ≤ S8192x1024.size a) : Memref sig .tc .hbm S512x1024 .bf16 :=
  xM.slice (Rect.unit (s := S8192x1024) ![o, 0] S512x1024.size h) (fun _ => rfl)
abbrev yout (o : ℕ) (h : ∀ a : Fin 2, (![o, 0] : Fin 2 → ℕ) a + S512x1024.size a ≤ S8192x1024.size a) : Memref sig .tc .hbm S512x1024 .bf16 :=
  yM.slice (Rect.unit (s := S8192x1024) ![o, 0] S512x1024.size h) (fun _ => rfl)
abbrev xsl (k : ℕ) (h : ∀ a : Fin 3, (![k, 0, 0] : Fin 3 → ℕ) a + S1x512x1024.size a ≤ S8x512x1024.size a) : Memref sig .tc .vmem S512x1024 .bf16 :=
  (xbM.slice (Rect.unit (s := S8x512x1024) ![k, 0, 0] S1x512x1024.size h) (fun _ => rfl)).squeeze S512x1024 squeezes_S1x512x1024_S512x1024
abbrev osl (k : ℕ) (h : ∀ a : Fin 3, (![k, 0, 0] : Fin 3 → ℕ) a + S1x512x1024.size a ≤ S4x512x1024.size a) : Memref sig .tc .vmem S512x1024 .bf16 :=
  (obM.slice (Rect.unit (s := S4x512x1024) ![k, 0, 0] S1x512x1024.size h) (fun _ => rfl)).squeeze S512x1024 squeezes_S1x512x1024_S512x1024
abbrev isem (k : ℕ) (h : ∀ a : Fin 1, (![k] : Fin 1 → ℕ) a + S1.size a ≤ S8.size a) : DmaSem sig :=
  ((cc0_scratch4.slice (Rect.unit (s := S8) ![k] S1.size h)).squeeze S_ squeezes_S1_S_).sem
abbrev osem (k : ℕ) (h : ∀ a : Fin 1, (![k] : Fin 1 → ℕ) a + S1.size a ≤ S4.size a) : DmaSem sig :=
  ((cc0_scratch5.slice (Rect.unit (s := S4) ![k] S1.size h)).squeeze S_ squeezes_S1_S_).sem

abbrev xinP (c : Dev nD) (o : ℕ) (h : ∀ a : Fin 2, (![o, 0] : Fin 2 → ℕ) a + S512x1024.size a ≤ S8192x1024.size a) : sProp 𝕄 :=
  (xin o h).view.loc (c : Thread nD τ) ↦[(xin o h).view.set]{qL} XA m c
abbrev youtP (c : Dev nD) (o : ℕ) (h : ∀ a : Fin 2, (![o, 0] : Fin 2 → ℕ) a + S512x1024.size a ≤ S8192x1024.size a)
    (f : Buf (Elt F) ((c : Thread nD τ).loc main_v1)) : sProp 𝕄 :=
  (yout o h).view.loc (c : Thread nD τ) ↦[(yout o h).view.set]{fullShare} f
abbrev xslP (c : Dev nD) (k : ℕ) (h : ∀ a : Fin 3, (![k, 0, 0] : Fin 3 → ℕ) a + S1x512x1024.size a ≤ S8x512x1024.size a)
    (f : Buf (Elt F) ((c : Thread nD τ).loc cc0_scratch0)) : sProp 𝕄 :=
  (xsl k h).view.loc (c : Thread nD τ) ↦[(xsl k h).view.set]{fullShare} f
abbrev oslP (c : Dev nD) (k : ℕ) (h : ∀ a : Fin 3, (![k, 0, 0] : Fin 3 → ℕ) a + S1x512x1024.size a ≤ S4x512x1024.size a)
    (f : Buf (Elt F) ((c : Thread nD τ).loc cc0_scratch1)) : sProp 𝕄 :=
  (osl k h).view.loc (c : Thread nD τ) ↦[(osl k h).view.set]{fullShare} f

/-- The sixteen chunks of the block read, of the result; the slots of the two rings; the semaphores of the copies inside the device. -/
def xinAll (c : Dev nD) : sProp 𝕄 :=
  iprop(xinP m c 0 inb_S8192x1024_S512x1024_0_0
    ∗ xinP m c 512 inb_S8192x1024_S512x1024_512_0
    ∗ xinP m c 1024 inb_S8192x1024_S512x1024_1024_0
    ∗ xinP m c 1536 inb_S8192x1024_S512x1024_1536_0
    ∗ xinP m c 2048 inb_S8192x1024_S512x1024_2048_0
    ∗ xinP m c 2560 inb_S8192x1024_S512x1024_2560_0
    ∗ xinP m c 3072 inb_S8192x1024_S512x1024_3072_0
    ∗ xinP m c 3584 inb_S8192x1024_S512x1024_3584_0
    ∗ xinP m c 4096 inb_S8192x1024_S512x1024_4096_0
    ∗ xinP m c 4608 inb_S8192x1024_S512x1024_4608_0
    ∗ xinP m c 5120 inb_S8192x1024_S512x1024_5120_0
    ∗ xinP m c 5632 inb_S8192x1024_S512x1024_5632_0
    ∗ xinP m c 6144 inb_S8192x1024_S512x1024_6144_0
    ∗ xinP m c 6656 inb_S8192x1024_S512x1024_6656_0
    ∗ xinP m c 7168 inb_S8192x1024_S512x1024_7168_0
    ∗ xinP m c 7680 inb_S8192x1024_S512x1024_7680_0)
def youtAll (c : Dev nD) (g : Buf (Elt F) ((c : Thread nD τ).loc main_v1)) : sProp 𝕄 :=
  iprop(youtP c 0 inb_S8192x1024_S512x1024_0_0 g
    ∗ youtP c 512 inb_S8192x1024_S512x1024_512_0 g
    ∗ youtP c 1024 inb_S8192x1024_S512x1024_1024_0 g
    ∗ youtP c 1536 inb_S8192x1024_S512x1024_1536_0 g
    ∗ youtP c 2048 inb_S8192x1024_S512x1024_2048_0 g
    ∗ youtP c 2560 inb_S8192x1024_S512x1024_2560_0 g
    ∗ youtP c 3072 inb_S8192x1024_S512x1024_3072_0 g
    ∗ youtP c 3584 inb_S8192x1024_S512x1024_3584_0 g
    ∗ youtP c 4096 inb_S8192x1024_S512x1024_4096_0 g
    ∗ youtP c 4608 inb_S8192x1024_S512x1024_4608_0 g
    ∗ youtP c 5120 inb_S8192x1024_S512x1024_5120_0 g
    ∗ youtP c 5632 inb_S8192x1024_S512x1024_5632_0 g
    ∗ youtP c 6144 inb_S8192x1024_S512x1024_6144_0 g
    ∗ youtP c 6656 inb_S8192x1024_S512x1024_6656_0 g
    ∗ youtP c 7168 inb_S8192x1024_S512x1024_7168_0 g
    ∗ youtP c 7680 inb_S8192x1024_S512x1024_7680_0 g)
def xslAll (c : Dev nD) (fx : Buf (Elt F) ((c : Thread nD τ).loc cc0_scratch0)) : sProp 𝕄 :=
  iprop(xslP c 0 inb_S8x512x1024_S1x512x1024_0_0_0 fx
    ∗ xslP c 1 inb_S8x512x1024_S1x512x1024_1_0_0 fx
    ∗ xslP c 2 inb_S8x512x1024_S1x512x1024_2_0_0 fx
    ∗ xslP c 3 inb_S8x512x1024_S1x512x1024_3_0_0 fx
    ∗ xslP c 4 inb_S8x512x1024_S1x512x1024_4_0_0 fx
    ∗ xslP c 5 inb_S8x512x1024_S1x512x1024_5_0_0 fx
    ∗ xslP c 6 inb_S8x512x1024_S1x512x1024_6_0_0 fx
    ∗ xslP c 7 inb_S8x512x1024_S1x512x1024_7_0_0 fx)
def oslAll (c : Dev nD) (fo : Buf (Elt F) ((c : Thread nD τ).loc cc0_scratch1)) : sProp 𝕄 :=
  iprop(oslP c 0 inb_S4x512x1024_S1x512x1024_0_0_0 fo
    ∗ oslP c 1 inb_S4x512x1024_S1x512x1024_1_0_0 fo
    ∗ oslP c 2 inb_S4x512x1024_S1x512x1024_2_0_0 fo
    ∗ oslP c 3 inb_S4x512x1024_S1x512x1024_3_0_0 fo)
def xslAny (c : Dev nD) : sProp 𝕄 :=
  iprop((∃ f, xslP c 0 inb_S8x512x1024_S1x512x1024_0_0_0 f)
    ∗ (∃ f, xslP c 1 inb_S8x512x1024_S1x512x1024_1_0_0 f)
    ∗ (∃ f, xslP c 2 inb_S8x512x1024_S1x512x1024_2_0_0 f)
    ∗ (∃ f, xslP c 3 inb_S8x512x1024_S1x512x1024_3_0_0 f)
    ∗ (∃ f, xslP c 4 inb_S8x512x1024_S1x512x1024_4_0_0 f)
    ∗ (∃ f, xslP c 5 inb_S8x512x1024_S1x512x1024_5_0_0 f)
    ∗ (∃ f, xslP c 6 inb_S8x512x1024_S1x512x1024_6_0_0 f)
    ∗ (∃ f, xslP c 7 inb_S8x512x1024_S1x512x1024_7_0_0 f))
def oslAny (c : Dev nD) : sProp 𝕄 :=
  iprop((∃ f, oslP c 0 inb_S4x512x1024_S1x512x1024_0_0_0 f)
    ∗ (∃ f, oslP c 1 inb_S4x512x1024_S1x512x1024_1_0_0 f)
    ∗ (∃ f, oslP c 2 inb_S4x512x1024_S1x512x1024_2_0_0 f)
    ∗ (∃ f, oslP c 3 inb_S4x512x1024_S1x512x1024_3_0_0 f))
def semsAll (c : Dev nD) : sProp 𝕄 :=
  iprop(semVal ((c : Thread nD τ), SemLoc.dma (isem 0 inb_S8_S1_0)) 0
    ∗ semVal ((c : Thread nD τ), SemLoc.dma (isem 1 inb_S8_S1_1)) 0
    ∗ semVal ((c : Thread nD τ), SemLoc.dma (isem 2 inb_S8_S1_2)) 0
    ∗ semVal ((c : Thread nD τ), SemLoc.dma (isem 3 inb_S8_S1_3)) 0
    ∗ semVal ((c : Thread nD τ), SemLoc.dma (isem 4 inb_S8_S1_4)) 0
    ∗ semVal ((c : Thread nD τ), SemLoc.dma (isem 5 inb_S8_S1_5)) 0
    ∗ semVal ((c : Thread nD τ), SemLoc.dma (isem 6 inb_S8_S1_6)) 0
    ∗ semVal ((c : Thread nD τ), SemLoc.dma (isem 7 inb_S8_S1_7)) 0
    ∗ semVal ((c : Thread nD τ), SemLoc.dma (osem 0 inb_S4_S1_0)) 0
    ∗ semVal ((c : Thread nD τ), SemLoc.dma (osem 1 inb_S4_S1_1)) 0
    ∗ semVal ((c : Thread nD τ), SemLoc.dma (osem 2 inb_S4_S1_2)) 0
    ∗ semVal ((c : Thread nD τ), SemLoc.dma (osem 3 inb_S4_S1_3)) 0)

/-- The counters of the exchange's cells back at zero. -/
def zeros (c : Dev nD) : sProp 𝕄 :=
  iprop(semVal (barCell c) 0 ∗ semVal (snd0Cell c) 0 ∗ semVal (snd1Cell c) 0 ∗ semVal (rcv0Cell c) 0 ∗ semVal (rcv1Cell c) 0)

/-- The five cells close once a device's position lies past their last duty. -/
theorem close_cells (K : Dev nD × Fin 5 → ℕ) (c : Dev nD) (s0 s1 r0 r1 : ℕ)
    (hs0 : ∀ r, s0 ≤ r → (sched (F := F) m).duties (snd0Cell c) r = ∅) (hs1 : ∀ r, s1 ≤ r → (sched (F := F) m).duties (snd1Cell c) r = ∅)
    (hr0 : ∀ r, r0 ≤ r → (sched (F := F) m).duties (rcv0Cell c) r = ∅) (hr1 : ∀ r, r1 ≤ r → (sched (F := F) m).duties (rcv1Cell c) r = ∅) :
    iprop(invs m K c ∗ atPos ER (barCell c) 1 ∅ 0 ∗ atPos ER (snd0Cell c) s0 ∅ 0 ∗ atPos ER (snd1Cell c) s1 ∅ 0
        ∗ atPos ER (rcv0Cell c) r0 ∅ 0 ∗ atPos ER (rcv1Cell c) r1 ∅ 0)
      ⊢ iprop(|={Set.univ}=> zeros c) := by
  unfold invs zeros
  iintro ⟨⟨#HIb, #HIs0, #HIs1, #HIr0, #HIr1, -, -, -, -⟩, HB, HS0, HS1, HR0, HR1⟩
  imod (Rounds.cell_close ER (sched m) (Set.mem_univ (K (c, 0))) (fun h => h) (duties_later m (barCell c))) $$ [HB] with Z0
  · isplitr; · iexact HIb
    iexact HB
  imod (Rounds.cell_close ER (sched m) (Set.mem_univ (K (c, 1))) (fun h => h) hs0) $$ [HS0] with Z1
  · isplitr; · iexact HIs0
    iexact HS0
  imod (Rounds.cell_close ER (sched m) (Set.mem_univ (K (c, 2))) (fun h => h) hs1) $$ [HS1] with Z2
  · isplitr; · iexact HIs1
    iexact HS1
  imod (Rounds.cell_close ER (sched m) (Set.mem_univ (K (c, 3))) (fun h => h) hr0) $$ [HR0] with Z3
  · isplitr; · iexact HIr0
    iexact HR0
  imod (Rounds.cell_close ER (sched m) (Set.mem_univ (K (c, 4))) (fun h => h) hr1) $$ [HR1] with Z4
  · isplitr; · iexact HIr1
    iexact HR1
  imodintro
  isplitl [Z0]; · iexact Z0
  isplitl [Z1]; · iexact Z1
  isplitl [Z2]; · iexact Z2
  isplitl [Z3]; · iexact Z3
  iexact Z4

/-- The credits of a device's receive cells, where there is a neighbour. -/
def rcvCreds (c : Dev nD) : sProp 𝕄 :=
  iprop((if 0 < c.val then cred (tallyAt (rcv0Cell c) () N) else emp) ∗ (if c.val < 7 then cred (tallyAt (rcv1Cell c) () N) else emp))

/-- What a device's part starts from, and what it ends with. -/
def before (K : Dev nD × Fin 5 → ℕ) (c : Dev nD) (W : Waits sig Unit) (fy : Buf (Elt F) ((c : Thread nD τ).loc main_v1))
    (fx : Buf (Elt F) ((c : Thread nD τ).loc cc0_scratch0)) (fo : Buf (Elt F) ((c : Thread nD τ).loc cc0_scratch1)) : sProp 𝕄 :=
  iprop(ghost m K c ∗ cred (tallyAt (barCell c) () 2) ∗ rcvCreds c ∗ levAts L lv ∗ (∃ f, loP c f) ∗ (∃ f, hiP c f)
    ∗ owes (c : Thread nD τ) (O₀ c) W ∗ rowFP m c ∗ rowLP m c ∗ xinAll m c ∗ youtAll c fy ∗ xslAll c fx ∗ oslAll c fo ∗ semsAll c)
def after (c : Dev nD) (g : Buf (Elt F) ((c : Thread nD τ).loc main_v1)) : sProp 𝕄 :=
  iprop(rowFP m c ∗ rowLP m c ∗ xinAll m c ∗ youtAll c g ∗ xslAny c ∗ oslAny c ∗ (∃ f, loP c f) ∗ (∃ f, hiP c f)
    ∗ semsAll c ∗ zeros c ∗ ∃ W, owes (c : Thread nD τ) 0 W)

end Cert.Halo

end
-- ==== Proof.Value.lean ====
/-
# The values: three stores into a slot are 512 rows of the stencil
-/
module

public import proofs.«01_k».proof.Proof.Win
public import Idealize.ShloMosaic.Lib.Pointwise
public import Idealize.ShloMosaic.Lib.Pipeline.Value

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The stencil -/

/-- A quarter of the row before, half of the row, a quarter of the row after. -/
def stn (a b d : F .bf16) : F .bf16 :=
  FloatOps.addf (FloatOps.addf (FloatOps.mulf (Scalar.ofBits .bf16 0x3E80#16) a) (FloatOps.mulf (Scalar.ofBits .bf16 0x3F00#16) b))
    (FloatOps.mulf (Scalar.ofBits .bf16 0x3E80#16) d)

/-- Device `c`'s rows with the neighbouring row on either side: row `r` of the block at `r + 1`. -/
def ex (c : Dev nD) (k : ℕ) (b : Fin 1024) : F .bf16 :=
  if k = 0 then XA m (prv c) (ix2 (n0 := 8192) (n1 := 1024) ⟨8191, by decide⟩ b)
  else if h : k - 1 < 8192 then XA m c (ix2 (n0 := 8192) (n1 := 1024) ⟨k - 1, h⟩ b)
  else XA m (nxt c) (ix2 (n0 := 8192) (n1 := 1024) ⟨0, by decide⟩ b)

theorem ex_in (c : Dev nD) (r : ℕ) (h : r < 8192) (b : Fin 1024) : ex m c (r + 1) b = XA m c (ix2 (n0 := 8192) (n1 := 1024) ⟨r, h⟩ b) := by
  unfold ex; rw [if_neg (by omega), dif_pos (by simpa using h)]; rfl

/-- The rows the two ends of the whole array keep. -/
abbrev IsEnd (c : Dev nD) (r : ℕ) : Prop := (c.val = 0 ∧ r = 0) ∨ (c.val = 7 ∧ r = 8191)

def yrow (c : Dev nD) (r : ℕ) (b : Fin 1024) : F .bf16 :=
  if IsEnd c r then ex m c (r + 1) b else stn (ex m c r b) (ex m c (r + 1) b) (ex m c (r + 2) b)

/-- Device `c`'s block of the result. -/
def Yv (c : Dev nD) : Buf (Elt F) ((c : Thread nD τ).loc main_v1) :=
  fun (i : S8192x1024.Idx) => yrow m c (i 0).val (i 1)

/-! ## A store of rows into a larger window of whole words -/

theorem sub_hit {off size st : Fin 3 → ℕ} (inb : ∀ a, off a + size a ≤ S4x512x1024.size a) {u : Shape} (pay : u.Idx → Elt F .bf16)
    (hs : (Rect.unit (s := S4x512x1024) off size inb).shape.Slices st u)
    (f : (obM : Memref sig .tc .vmem S4x512x1024 .bf16).view.ty.Contents (Elt F)) (P : S4x512x1024.Idx)
    (hP : ∀ a : Fin 3, off a + st a ≤ (P a).val ∧ (P a).val < off a + st a + u.size (a.cast hs.1.symm))
    (j : u.Idx) (hj : ∀ a : Fin u.rank, (P (a.cast hs.1)).val = off (a.cast hs.1) + st (a.cast hs.1) + (j a).val) :
    View.write (Elt F) (obM.access (Rect.unit (s := S4x512x1024) off size inb)) f
      (updateSlice (View.readAt (Elt F) obM.view (Rect.unit (s := S4x512x1024) off size inb).toLoadRect f) pay st hs) Finset.univ P = pay j := by
  have hsz : ∀ a : Fin 3, st a + u.size (a.cast hs.1.symm) ≤ size a := fun a => hs.2 a
  let q : (Rect.unit (s := S4x512x1024) off size inb).shape.Idx := fun a => ⟨(P a).val - off a, by
    have h1 := hP a; have h2 := hsz a
    show (P a).val - off a < size a
    omega⟩
  have hq : (obM.access (Rect.unit (s := S4x512x1024) off size inb)).emb q = P := funext fun a => Fin.ext (by
    show off a + 1 * ((P a).val - off a) = (P a).val
    have := hP a; omega)
  conv_lhs => rw [← hq]
  refine (View.write_emb_of_mem (v := obM.access (Rect.unit (s := S4x512x1024) off size inb)) f _ (Finset.mem_univ q)).trans ?_
  refine (cast_eq rfl _).trans ?_
  rw [updateSlice_apply, dif_pos (fun a => by
    have h1 := hP a
    show st a ≤ (P a).val - off a ∧ (P a).val - off a < st a + u.size (a.cast hs.1.symm)
    omega)]
  congr 1
  funext a
  refine Fin.ext ?_
  show (P (a.cast hs.1)).val - off (a.cast hs.1) - st (a.cast hs.1) = (j a).val
  have := hj a
  omega

theorem sub_miss {off size st : Fin 3 → ℕ} (inb : ∀ a, off a + size a ≤ S4x512x1024.size a) {u : Shape} (pay : u.Idx → Elt F .bf16)
    (hs : (Rect.unit (s := S4x512x1024) off size inb).shape.Slices st u)
    (f : (obM : Memref sig .tc .vmem S4x512x1024 .bf16).view.ty.Contents (Elt F)) (P : S4x512x1024.Idx) (a : Fin 3)
    (hP : (P a).val < off a + st a ∨ off a + st a + u.size (a.cast hs.1.symm) ≤ (P a).val) :
    View.write (Elt F) (obM.access (Rect.unit (s := S4x512x1024) off size inb)) f
      (updateSlice (View.readAt (Elt F) obM.view (Rect.unit (s := S4x512x1024) off size inb).toLoadRect f) pay st hs) Finset.univ P = f P := by
  by_cases hm : ∀ a : Fin 3, off a ≤ (P a).val ∧ (P a).val < off a + size a
  · let q : (Rect.unit (s := S4x512x1024) off size inb).shape.Idx := fun a => ⟨(P a).val - off a, by
      have h1 := hm a
      show (P a).val - off a < size a
      omega⟩
    have hq : (obM.access (Rect.unit (s := S4x512x1024) off size inb)).emb q = P := funext fun a => Fin.ext (by
      show off a + 1 * ((P a).val - off a) = (P a).val
      have := hm a; omega)
    conv_lhs => rw [← hq]
    refine (View.write_emb_of_mem (v := obM.access (Rect.unit (s := S4x512x1024) off size inb)) f _ (Finset.mem_univ q)).trans ?_
    refine (cast_eq rfl _).trans ?_
    rw [updateSlice_apply, dif_neg (fun h => by
      have h1 : st a ≤ (P a).val - off a ∧ (P a).val - off a < st a + u.size (a.cast hs.1.symm) := h a
      have h2 := hm a
      omega)]
    exact congrArg f hq
  · refine View.write_of_not_mem _ _ _ (fun h => hm ?_)
    obtain ⟨x, -, rfl⟩ := Finset.mem_map.mp h
    intro a
    show off a ≤ off a + 1 * (x a).val ∧ off a + 1 * (x a).val < off a + size a
    have : (x a).val < size a := (x a).isLt
    omega

/-- A slot of the result's ring read at a row. -/
theorem osl_read (k : ℕ) (hk : k < 4) (h : ∀ a : Fin 3, (![k, 0, 0] : Fin 3 → ℕ) a + S1x512x1024.size a ≤ S4x512x1024.size a)
    (f : (obM : Memref sig .tc .vmem S4x512x1024 .bf16).view.ty.Contents (Elt F)) (r : Fin 512) (b : Fin 1024) :
    (osl k h).view.read (Elt F) f (ix2 r b) = f (ix3 (n0 := 4) (n1 := 512) (n2 := 1024) ⟨k, hk⟩ r b) := by
  show f ((Rect.unit (s := S4x512x1024) ![k, 0, 0] S1x512x1024.size h).emb (Shape.reshapeEquiv _ (ix2 r b))) = _
  congr 1
  rw [Shape.reshapeEquiv_cons_one (d := ![512, 1024])]
  funext a
  refine Fin.ext ?_
  fin_cases a
  · show k + 1 * 0 = k; omega
  · show 0 + 1 * r.val = r.val; omega
  · show 0 + 1 * b.val = b.val; omega

/-- The three stores: rows 1 to 510, row 0, row 511. -/
abbrev st1 (k : ℕ) (h0 : ∀ a : Fin 3, (![k, 0, 0] : Fin 3 → ℕ) a + S1x512x1024.size a ≤ S4x512x1024.size a)
    (f : (obM : Memref sig .tc .vmem S4x512x1024 .bf16).view.ty.Contents (Elt F)) (I : S1x510x1024.Idx → Elt F .bf16) :
    (obM : Memref sig .tc .vmem S4x512x1024 .bf16).view.ty.Contents (Elt F) :=
  View.write (Elt F) (obM.access (Rect.unit (s := S4x512x1024) ![k, 0, 0] S1x512x1024.size h0)) f
    (updateSlice (View.readAt (Elt F) obM.view (Rect.unit (s := S4x512x1024) ![k, 0, 0] S1x512x1024.size h0).toLoadRect f) I ![0, 1, 0]
      slices_S1x512x1024_S1x510x1024_0_1_0) Finset.univ
abbrev st2 (k : ℕ) (h1 : ∀ a : Fin 3, (![k, 0, 0] : Fin 3 → ℕ) a + S1x2x1024.size a ≤ S4x512x1024.size a)
    (f : (obM : Memref sig .tc .vmem S4x512x1024 .bf16).view.ty.Contents (Elt F)) (A : S1x1x1024.Idx → Elt F .bf16) :
    (obM : Memref sig .tc .vmem S4x512x1024 .bf16).view.ty.Contents (Elt F) :=
  View.write (Elt F) (obM.access (Rect.unit (s := S4x512x1024) ![k, 0, 0] S1x2x1024.size h1)) f
    (updateSlice (View.readAt (Elt F) obM.view (Rect.unit (s := S4x512x1024) ![k, 0, 0] S1x2x1024.size h1).toLoadRect f) A ![0, 0, 0]
      slices_S1x2x1024_S1x1x1024_0_0_0) Finset.univ
abbrev st3 (k : ℕ) (h2 : ∀ a : Fin 3, (![k, 510, 0] : Fin 3 → ℕ) a + S1x2x1024.size a ≤ S4x512x1024.size a)
    (f : (obM : Memref sig .tc .vmem S4x512x1024 .bf16).view.ty.Contents (Elt F)) (B : S1x1x1024.Idx → Elt F .bf16) :
    (obM : Memref sig .tc .vmem S4x512x1024 .bf16).view.ty.Contents (Elt F) :=
  View.write (Elt F) (obM.access (Rect.unit (s := S4x512x1024) ![k, 510, 0] S1x2x1024.size h2)) f
    (updateSlice (View.readAt (Elt F) obM.view (Rect.unit (s := S4x512x1024) ![k, 510, 0] S1x2x1024.size h2).toLoadRect f) B ![0, 1, 0]
      slices_S1x2x1024_S1x1x1024_0_1_0) Finset.univ

theorem slot_rows (k : ℕ) (hk : k < 4) (h0 h1 h2) (f) (I : S1x510x1024.Idx → Elt F .bf16) (A B : S1x1x1024.Idx → Elt F .bf16)
    (g : ℕ → Fin 1024 → F .bf16)
    (hI : ∀ (r : Fin 510) b, I (ix3 0 r b) = g (r.val + 1) b) (hA : ∀ b, A (ix3 0 0 b) = g 0 b) (hB : ∀ b, B (ix3 0 0 b) = g 511 b)
    (r : Fin 512) (b : Fin 1024) :
    (osl k h0).view.read (Elt F) (st3 k h2 (st2 k h1 (st1 k h0 f I) A) B) (ix2 r b) = g r.val b := by
  rw [osl_read k hk]
  have hr := r.isLt
  by_cases e3 : r.val = 511
  · rw [st3, sub_hit _ _ _ _ _ (fun a => by
      have hb := b.isLt
      fin_cases a
      · show k + 0 ≤ k ∧ k < k + 0 + 1; omega
      · show 510 + 1 ≤ r.val ∧ r.val < 510 + 1 + 1; omega
      · show 0 + 0 ≤ b.val ∧ b.val < 0 + 0 + 1024; omega) (ix3 (n0 := 1) (n1 := 1) (n2 := 1024) 0 0 b) (fun a => by
      fin_cases a
      · show k = k + 0 + 0; omega
      · show r.val = 510 + 1 + 0; omega
      · show b.val = 0 + 0 + b.val; omega), hB, e3]
  rw [st3, sub_miss _ _ _ _ _ 1 (by left; show r.val < 510 + 1; omega)]
  by_cases e2 : r.val = 0
  · rw [st2, sub_hit _ _ _ _ _ (fun a => by
      have hb := b.isLt
      fin_cases a
      · show k + 0 ≤ k ∧ k < k + 0 + 1; omega
      · show 0 + 0 ≤ r.val ∧ r.val < 0 + 0 + 1; omega
      · show 0 + 0 ≤ b.val ∧ b.val < 0 + 0 + 1024; omega) (ix3 (n0 := 1) (n1 := 1) (n2 := 1024) 0 0 b) (fun a => by
      fin_cases a
      · show k = k + 0 + 0; omega
      · show r.val = 0 + 0 + 0; omega
      · show b.val = 0 + 0 + b.val; omega), hA, e2]
  rw [st2, sub_miss _ _ _ _ _ 1 (by right; show 0 + 0 + 1 ≤ r.val; omega)]
  rw [st1, sub_hit _ _ _ _ _ (fun a => by
    have hb := b.isLt
    fin_cases a
    · show k + 0 ≤ k ∧ k < k + 0 + 1; omega
    · show 0 + 1 ≤ r.val ∧ r.val < 0 + 1 + 510; omega
    · show 0 + 0 ≤ b.val ∧ b.val < 0 + 0 + 1024; omega) (ix3 (n0 := 1) (n1 := 510) (n2 := 1024) 0 ⟨r.val - 1, by omega⟩ b) (fun a => by
    fin_cases a
    · show k = k + 0 + 0; omega
    · show r.val = 0 + 1 + (r.val - 1); omega
    · show b.val = 0 + 0 + b.val; omega), hI]
  congr 1
  show r.val - 1 + 1 = r.val
  omega

/-! ## The loads -/

/-- Rows loaded from a slot of the input's ring holding rows `o .. o + 511` of the block. -/
abbrev ld (c : Dev nD) (k o : ℕ) (hk : ∀ a : Fin 3, (![k, 0, 0] : Fin 3 → ℕ) a + S1x512x1024.size a ≤ S8x512x1024.size a)
    (ho : ∀ a : Fin 2, (![o, 0] : Fin 2 → ℕ) a + S512x1024.size a ≤ S8192x1024.size a)
    (fj : Buf (Elt F) ((c : Thread nD τ).loc cc0_scratch0)) (R : List (View.Piece (Elt F) S512x1024 .bf16))
    (r n : ℕ) (hr : ∀ a : Fin 3, (![k, r, 0] : Fin 3 → ℕ) a + (![1, n, 1024] : Fin 3 → ℕ) a ≤ S8x512x1024.size a) :
    (⟨3, ![1, n, 1024]⟩ : Shape).Idx → Elt F .bf16 :=
  View.readAt (Elt F) xbM.view (Rect.unit (s := S8x512x1024) ![k, r, 0] ![1, n, 1024] hr).toLoadRect
    ((xsl k hk).view.writes (Elt F) fj ((⟨Rect.whole S512x1024, ReadAs.same.apply ((xin o ho).view.read (Elt F) (XA m c))⟩ : View.Piece (Elt F) S512x1024 .bf16) :: R))

theorem ld_eq (c : Dev nD) (k o : ℕ) (hk ho fj R r n hr) (j : Fin n) (b : Fin 1024) :
    ld m c k o hk ho fj R r n hr (ix3 0 j b) = ex m c (o + r + j.val + 1) b := by
  have ho' : o + 512 ≤ 8192 := ho 0
  have hr' : r + n ≤ 512 := hr 1
  have hj := j.isLt
  rw [ex_in m c (o + r + j.val) (by omega)]
  have e : (xsl k hk).view.emb ((Rect.whole S512x1024).emb (ix2 (n0 := 512) (n1 := 1024) ⟨r + j.val, by omega⟩ b))
      = (xbM : Memref sig .tc .vmem S8x512x1024 .bf16).view.emb ((Rect.unit (s := S8x512x1024) ![k, r, 0] ![1, n, 1024] hr).toLoadRect.idx (ix3 0 j b)) := by
    rw [Rect.emb_whole_apply]
    show (Rect.unit (s := S8x512x1024) ![k, 0, 0] S1x512x1024.size hk).emb (Shape.reshapeEquiv _ (ix2 (n0 := 512) (n1 := 1024) ⟨r + j.val, by omega⟩ b)) = _
    rw [Shape.reshapeEquiv_cons_one (d := ![512, 1024])]
    funext a
    refine Fin.ext ?_
    fin_cases a
    · show k + 1 * 0 = k + 1 * 0; rfl
    · show 0 + 1 * (r + j.val) = r + 1 * j.val; omega
    · show 0 + 1 * b.val = 0 + 1 * b.val; rfl
  have h := View.read_writes_cons_emb (xsl k hk).view fj (Rect.whole S512x1024)
    (ReadAs.same.apply ((xin o ho).view.read (Elt F) (XA m c))) R (ix2 (n0 := 512) (n1 := 1024) ⟨r + j.val, by omega⟩ b)
  rw [View.read_apply, e] at h
  rw [ld, View.readAt_apply, View.read_apply]
  refine h.trans ?_
  · show XA m c ((Rect.unit (s := S8192x1024) ![o, 0] S512x1024.size ho).emb (ix2 (n0 := 512) (n1 := 1024) ⟨r + j.val, by omega⟩ b)) = _
    refine congrArg (XA m c) (funext fun a => Fin.ext ?_)
    fin_cases a
    · show o + 1 * (r + j.val) = o + r + j.val; omega
    · show 0 + 1 * b.val = b.val; omega

/-! ## The payloads -/

/-- The stencil of three blocks of rows, as the kernel computes it between the shapes with a leading unit axis. -/
abbrev payI (u v w : S1x510x1024.Idx → F .bf16) : S1x510x1024.Idx → F .bf16 :=
  shapeCast S1x510x1024 (addf (addf (mulf (broadcast S510x1024 (Scalar.ofBits .bf16 0x3E80#16)) (shapeCast S510x1024 u shapeCasts_S1x510x1024_S510x1024))
      (mulf (broadcast S510x1024 (Scalar.ofBits .bf16 0x3F00#16)) (shapeCast S510x1024 v shapeCasts_S1x510x1024_S510x1024)))
    (mulf (broadcast S510x1024 (Scalar.ofBits .bf16 0x3E80#16)) (shapeCast S510x1024 w shapeCasts_S1x510x1024_S510x1024)))
    shapeCasts_S510x1024_S1x510x1024
/-- The same of three rows. -/
abbrev payR (u v w : S1x1024.Idx → F .bf16) : S1x1x1024.Idx → F .bf16 :=
  shapeCast S1x1x1024 (addf (addf (mulf (broadcast S1x1024 (Scalar.ofBits .bf16 0x3E80#16)) u)
      (mulf (broadcast S1x1024 (Scalar.ofBits .bf16 0x3F00#16)) v))
    (mulf (broadcast S1x1024 (Scalar.ofBits .bf16 0x3E80#16)) w))
    shapeCasts_S1x1024_S1x1x1024
abbrev row1 (u : S1x1x1024.Idx → F .bf16) : S1x1024.Idx → F .bf16 := shapeCast S1x1024 u shapeCasts_S1x1x1024_S1x1024
abbrev row3 (u : S1x1024.Idx → F .bf16) : S1x1x1024.Idx → F .bf16 := shapeCast S1x1x1024 u shapeCasts_S1x1024_S1x1x1024

theorem drop_at {n : ℕ} {α : Type} (u : (⟨3, ![1, n, 1024]⟩ : Shape).Idx → α) (h : (⟨3, ![1, n, 1024]⟩ : Shape).ShapeCasts ⟨2, ![n, 1024]⟩) (r : Fin n) (b : Fin 1024) :
    shapeCast ⟨2, ![n, 1024]⟩ u h (ix2 r b) = u (ix3 0 r b) := by
  rw [shapeCast_dropUnit_apply ![n, 1024]]
  congr 1
  funext a
  fin_cases a <;> rfl
theorem add_at {n : ℕ} {α : Type} (u : (⟨2, ![n, 1024]⟩ : Shape).Idx → α) (h : (⟨2, ![n, 1024]⟩ : Shape).ShapeCasts ⟨3, ![1, n, 1024]⟩) (r : Fin n) (b : Fin 1024) :
    shapeCast ⟨3, ![1, n, 1024]⟩ u h (ix3 0 r b) = u (ix2 r b) := by
  rw [shapeCast_addUnit_apply ![n, 1024]]
  congr 1
  funext a
  fin_cases a <;> rfl

theorem payI_at (u v w : S1x510x1024.Idx → F .bf16) (r : Fin 510) (b : Fin 1024) :
    payI u v w (ix3 0 r b) = stn (u (ix3 0 r b)) (v (ix3 0 r b)) (w (ix3 0 r b)) := by
  rw [payI, add_at]
  show stn (shapeCast S510x1024 u _ (ix2 r b)) (shapeCast S510x1024 v _ (ix2 r b)) (shapeCast S510x1024 w _ (ix2 r b)) = _
  rw [drop_at, drop_at, drop_at]
theorem payR_at (u v w : S1x1024.Idx → F .bf16) (b : Fin 1024) :
    payR u v w (ix3 0 0 b) = stn (u (ix2 0 b)) (v (ix2 0 b)) (w (ix2 0 b)) := by
  rw [payR, add_at]
  rfl
theorem row1_at (u : S1x1x1024.Idx → F .bf16) (b : Fin 1024) : row1 u (ix2 0 b) = u (ix3 0 0 b) := drop_at u _ 0 b
theorem row3_at (u : S1x1024.Idx → F .bf16) (b : Fin 1024) : row3 u (ix3 0 0 b) = u (ix2 0 b) := add_at u _ 0 b

/-- The row loaded from `lo`: the last of the block before; from `hi`: the first of the block after. -/
theorem lo_at (c : Dev nD) (b : Fin 1024) :
    View.readAt (Elt F) (loM : Memref sig .tc .vmem S2x1024 .bf16).view
      (Rect.unit (s := S2x1024) ![1, 0] S1x1024.size inb_S2x1024_S1x1024_1_0).toLoadRect (landLo m c) (ix2 (n0 := 1) (n1 := 1024) 0 b) = ex m c 0 b := by
  unfold ex; rw [if_pos rfl]
  show XA m (prv c) ((Rect.unit (s := S8192x1024) ![8190, 0] S2x1024.size inb_S8192x1024_S2x1024_8190_0).emb
    ((Rect.unit (s := S2x1024) ![1, 0] S1x1024.size inb_S2x1024_S1x1024_1_0).emb (ix2 (n0 := 1) (n1 := 1024) 0 b))) = _
  congr 1
  funext a
  refine Fin.ext ?_
  fin_cases a
  · rfl
  · show 0 + 1 * (0 + 1 * b.val) = b.val; omega
theorem hi_at (c : Dev nD) (b : Fin 1024) :
    View.readAt (Elt F) (hiM : Memref sig .tc .vmem S2x1024 .bf16).view
      (Rect.unit (s := S2x1024) ![0, 0] S1x1024.size inb_S2x1024_S1x1024_0_0).toLoadRect (landHi m c) (ix2 (n0 := 1) (n1 := 1024) 0 b) = ex m c 8193 b := by
  unfold ex; rw [if_neg (by decide), dif_neg (by decide)]
  show XA m (nxt c) ((Rect.unit (s := S8192x1024) ![0, 0] S2x1024.size inb_S8192x1024_S2x1024_0_0).emb
    ((Rect.unit (s := S2x1024) ![0, 0] S1x1024.size inb_S2x1024_S1x1024_0_0).emb (ix2 (n0 := 1) (n1 := 1024) 0 b))) = _
  congr 1
  funext a
  refine Fin.ext ?_
  fin_cases a
  · rfl
  · show 0 + 1 * (0 + 1 * b.val) = b.val; omega

/-! ## A chunk -/

/-- Rows of the stencil copied to rows `o .. o + 511` of the result. -/
theorem copy_rows (c : Dev nD) (o : ℕ) (ho) (w : S512x1024.Idx → Elt F .bf16) (hw : ∀ (r : Fin 512) (b : Fin 1024), w (ix2 r b) = yrow m c (o + r.val) b)
    (fy : Buf (Elt F) ((c : Thread nD τ).loc main_v1)) :
    youtP c o ho ((yout o ho).view.writes (Elt F) fy [⟨Rect.whole S512x1024, w⟩]) ⊢ youtP c o ho (Yv m c) := by
  refine Entails.of_eq (pointsTo_congr fun i hi => ?_)
  obtain ⟨y, -, rfl⟩ := Finset.mem_map.mp hi
  have e : ((yout o ho).view.slice (Rect.whole S512x1024)).emb y = (yout o ho).view.emb y := congrArg (yout o ho).view.emb (Rect.emb_whole_apply S512x1024 y)
  rw [View.writes_cons, ← e]
  refine (View.write_emb_of_mem (v := (yout o ho).view.slice (Rect.whole S512x1024)) _ _ (Finset.mem_univ y)).trans ?_
  refine (cast_eq rfl _).trans ?_
  rw [e]
  have hy : y = ix2 (n0 := 512) (n1 := 1024) (y 0) (y 1) := funext fun a => by fin_cases a <;> rfl
  have h := hw (y 0) (y 1)
  rw [← hy] at h
  refine h.trans ?_
  show yrow m c (o + (y 0).val) (y 1) = yrow m c (o + 1 * (y 0).val) (⟨0 + 1 * (y 1).val, _⟩ : Fin 1024)
  rw [Nat.one_mul]
  exact congrArg (yrow m c (o + (y 0).val)) (Fin.ext (by show (y 1).val = 0 + 1 * (y 1).val; omega))

theorem chunk_rows (c : Dev nD) (o : ℕ) (ho : ∀ a : Fin 2, (![o, 0] : Fin 2 → ℕ) a + S512x1024.size a ≤ S8192x1024.size a) (k : ℕ) (hk : k < 4) (h0 h1 h2) (f)
    (u v w : S1x510x1024.Idx → F .bf16) (A B : S1x1x1024.Idx → F .bf16)
    (hu : ∀ (r : Fin 510) b, u (ix3 0 r b) = ex m c (o + 0 + r.val + 1) b) (hv : ∀ (r : Fin 510) b, v (ix3 0 r b) = ex m c (o + 1 + r.val + 1) b)
    (hw : ∀ (r : Fin 510) b, w (ix3 0 r b) = ex m c (o + 2 + r.val + 1) b)
    (hA : ∀ b, A (ix3 0 0 b) = yrow m c o b) (hB : ∀ b, B (ix3 0 0 b) = yrow m c (o + 511) b) (r : Fin 512) (b : Fin 1024) :
    (osl k h0).view.read (Elt F) (st3 k h2 (st2 k h1 (st1 k h0 f (payI u v w)) A) B) (ix2 r b) = yrow m c (o + r.val) b := by
  have ho' : o + 512 ≤ 8192 := ho 0
  refine slot_rows k hk h0 h1 h2 f (payI u v w) A B (fun r b => yrow m c (o + r) b) (fun r b => ?_) hA hB r b
  rw [payI_at, hu, hv, hw]
  have hr := r.isLt
  show _ = yrow m c (o + (r.val + 1)) b
  rw [yrow, if_neg (by rintro (⟨-, h⟩ | ⟨-, h⟩) <;> omega)]
  rw [show o + 0 + r.val + 1 = o + (r.val + 1) by omega, show o + 1 + r.val + 1 = o + (r.val + 1) + 1 by omega, show o + 2 + r.val + 1 = o + (r.val + 1) + 2 by omega]

/-- The copy of a slot to rows `o .. o + 511` of the result, when its first and last row are the stencil's. -/
theorem chunk_core (c : Dev nD) (o : ℕ) (ho) (k : ℕ) (hk : k < 4) (h0 h1 h2) (f)
    (u v w : S1x510x1024.Idx → F .bf16) (A B : S1x1x1024.Idx → F .bf16)
    (hu : ∀ (r : Fin 510) b, u (ix3 0 r b) = ex m c (o + 0 + r.val + 1) b) (hv : ∀ (r : Fin 510) b, v (ix3 0 r b) = ex m c (o + 1 + r.val + 1) b)
    (hw : ∀ (r : Fin 510) b, w (ix3 0 r b) = ex m c (o + 2 + r.val + 1) b)
    (hA : ∀ b, A (ix3 0 0 b) = yrow m c o b) (hB : ∀ b, B (ix3 0 0 b) = yrow m c (o + 511) b)
    (fy : Buf (Elt F) ((c : Thread nD τ).loc main_v1)) :
    youtP c o ho ((yout o ho).view.writes (Elt F) fy [⟨Rect.whole S512x1024,
        ReadAs.same.apply ((osl k h0).view.read (Elt F) (st3 k h2 (st2 k h1 (st1 k h0 f (payI u v w)) A) B))⟩])
      ⊢ youtP c o ho (Yv m c) :=
  copy_rows m c o ho _ (fun r b => chunk_rows m c o ho k hk h0 h1 h2 f u v w A B hu hv hw hA hB r b) fy

end Cert.Halo

end
-- ==== Proof.Chunk.lean ====
/-
# Sixteen chunks: the rows each store puts down
-/
module

public import proofs.«01_k».proof.Proof.Value

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI

variable {F : FTy → Type} [FloatOps F]

variable (m : (ℓ : Loc nD τ sig) → Buf (Elt F) ℓ) (c : Dev nD)

abbrev InRow (o : ℕ) : Prop := ∀ a : Fin 2, (![o, 0] : Fin 2 → ℕ) a + S512x1024.size a ≤ S8192x1024.size a
abbrev InSlot (k : ℕ) : Prop := ∀ a : Fin 3, (![k, 0, 0] : Fin 3 → ℕ) a + S1x512x1024.size a ≤ S8x512x1024.size a
abbrev Junk : Type := Buf (Elt F) ((c : Thread nD τ).loc cc0_scratch0)
abbrev Ps : Type := List (View.Piece (Elt F) S512x1024 .bf16)

theorem inner (o i1 i2 i3 : ℕ) (b : Fin 1024) (hi : ¬ IsEnd c o) (h1 : i1 = o) (h2 : i2 = o + 1) (h3 : i3 = o + 2) :
    stn (ex m c i1 b) (ex m c i2 b) (ex m c i3 b) = yrow m c o b := by
  rw [yrow, if_neg hi, h1, h2, h3]

/-- A row loaded from the input's ring. -/
theorem row_ld (k o : ℕ) (hk : InSlot k) (ho : InRow o) (fj : Junk (F := F) c) (R : Ps (F := F)) (r : ℕ) (hr) (b : Fin 1024) :
    row1 (ld m c k o hk ho fj R r 1 hr) (ix2 0 b) = ex m c (o + r + 1) b := by
  rw [row1_at, ld_eq]; rfl

section First
variable (o k : ℕ) (hk hk' : InSlot k) (ho ho' : InRow o) (f1 f2 : Junk (F := F) c) (R1 R2 : Ps (F := F)) (r1 r2)

/-- The first row of a chunk, its neighbour in the slot before. -/
theorem A_mid (op kp : ℕ) (hkp : InSlot kp) (hop : InRow op) (f0 : Junk (F := F) c) (R0 : Ps (F := F)) (r0) (ht : op + 512 = o) (b : Fin 1024) :
    payR (row1 (ld m c kp op hkp hop f0 R0 511 1 r0)) (row1 (ld m c k o hk ho f1 R1 0 1 r1)) (row1 (ld m c k o hk' ho' f2 R2 1 1 r2)) (ix3 0 0 b)
      = yrow m c o b := by
  have h : o + 512 ≤ 8192 := ho 0
  rw [payR_at, row_ld, row_ld, row_ld]
  exact inner m c o _ _ _ b (by rintro (⟨-, h'⟩ | ⟨-, h'⟩) <;> omega) (by omega) (by omega) (by omega)

/-- The last row of a chunk, its neighbour in the slot after. -/
theorem B_mid (on kn : ℕ) (hkn : InSlot kn) (hon : InRow on) (f0 : Junk (F := F) c) (R0 : Ps (F := F)) (r0) (ht : o + 512 = on) (b : Fin 1024) :
    payR (row1 (ld m c k o hk ho f1 R1 510 1 r1)) (row1 (ld m c k o hk' ho' f2 R2 511 1 r2)) (row1 (ld m c kn on hkn hon f0 R0 0 1 r0)) (ix3 0 0 b)
      = yrow m c (o + 511) b := by
  have h : on + 512 ≤ 8192 := hon 0
  rw [payR_at, row_ld, row_ld, row_ld]
  exact inner m c (o + 511) _ _ _ b (by rintro (⟨-, h'⟩ | ⟨-, h'⟩) <;> omega) (by omega) (by omega) (by omega)

end First

section Ends
variable (k : ℕ) (hk hk' : InSlot k) (f1 f2 : Junk (F := F) c) (R1 R2 : Ps (F := F)) (r1 r2)

/-- The first row of the block, its neighbour landed in `lo`; of the whole array's first block. -/
theorem A_lo (h0 : 0 < c.val) (ho ho' : InRow 0) (b : Fin 1024) :
    payR (View.readAt (Elt F) (loM : Memref sig .tc .vmem S2x1024 .bf16).view
        (Rect.unit (s := S2x1024) ![1, 0] S1x1024.size inb_S2x1024_S1x1024_1_0).toLoadRect (landLo m c))
      (row1 (ld m c k 0 hk ho f1 R1 0 1 r1)) (row1 (ld m c k 0 hk' ho' f2 R2 1 1 r2)) (ix3 0 0 b)
      = yrow m c 0 b := by
  rw [payR_at, row_ld, row_ld, lo_at]
  exact inner m c 0 _ _ _ b (by rintro (⟨h', -⟩ | ⟨-, h'⟩) <;> omega) (by omega) (by omega) (by omega)
theorem A_edge (h0 : c.val = 0) (ho : InRow 0) (b : Fin 1024) :
    row3 (row1 (ld m c k 0 hk ho f1 R1 0 1 r1)) (ix3 0 0 b) = yrow m c 0 b := by
  rw [row3_at, row_ld, yrow, if_pos (Or.inl ⟨h0, rfl⟩)]

/-- The last row of the block, its neighbour landed in `hi`; of the whole array's last block. -/
theorem B_hi (h7 : c.val < 7) (ho ho' : InRow 7680) (b : Fin 1024) :
    payR (row1 (ld m c k 7680 hk ho f1 R1 510 1 r1)) (row1 (ld m c k 7680 hk' ho' f2 R2 511 1 r2))
      (View.readAt (Elt F) (hiM : Memref sig .tc .vmem S2x1024 .bf16).view
        (Rect.unit (s := S2x1024) ![0, 0] S1x1024.size inb_S2x1024_S1x1024_0_0).toLoadRect (landHi m c)) (ix3 0 0 b)
      = yrow m c (7680 + 511) b := by
  rw [payR_at, row_ld, row_ld, hi_at]
  exact inner m c (7680 + 511) _ _ _ b (by rintro (⟨-, h'⟩ | ⟨h', -⟩) <;> omega) (by omega) (by omega) (by omega)
theorem B_edge (h7 : c.val = 7) (ho : InRow 7680) (b : Fin 1024) :
    row3 (row1 (ld m c k 7680 hk ho f1 R1 511 1 r1)) (ix3 0 0 b) = yrow m c (7680 + 511) b := by
  rw [row3_at, row_ld, yrow, if_pos (Or.inr ⟨h7, rfl⟩)]

end Ends

/-- A chunk: its rows 1 to 510 from one slot. -/
theorem chunk_ld (o : ℕ) (ho : InRow o) (k : ℕ) (hk : k < 4) (h0 h1 h2) (f)
    (s : ℕ) (hs1 hs2 hs3 : InSlot s) (p1 p2 p3 : InRow o) (f1 f2 f3 : Junk (F := F) c) (R1 R2 R3 : Ps (F := F)) (r1 r2 r3) (A B : S1x1x1024.Idx → F .bf16)
    (hA : ∀ b, A (ix3 0 0 b) = yrow m c o b) (hB : ∀ b, B (ix3 0 0 b) = yrow m c (o + 511) b) (r : Fin 512) (b : Fin 1024) :
    (osl k h0).view.read (Elt F) (st3 k h2 (st2 k h1 (st1 k h0 f
        (payI (ld m c s o hs1 p1 f1 R1 0 510 r1) (ld m c s o hs2 p2 f2 R2 1 510 r2) (ld m c s o hs3 p3 f3 R3 2 510 r3))) A) B) (ix2 r b)
      = yrow m c (o + r.val) b :=
  chunk_rows m c o ho k hk h0 h1 h2 f _ _ _ A B (fun r b => ld_eq m c s o hs1 p1 f1 R1 0 510 r1 r b)
    (fun r b => ld_eq m c s o hs2 p2 f2 R2 1 510 r2 r b) (fun r b => ld_eq m c s o hs3 p3 f3 R3 2 510 r3 r b) hA hB r b

end Cert.Halo

end
-- ==== Proof.Body.lean ====
/-
# The run of a device with a neighbour on both sides
-/
module

public import proofs.«01_k».proof.Proof.Chunk

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The one round of the cells with a copy -/

omit [FloatOps F] in
theorem expect_rcv0 (c : Dev nD) (h : 0 < c.val) : (sched (F := F) m).expect (rcv0Cell c) 0 = N := expect_one m c _ (duties_rcv0 m c h)
omit [FloatOps F] in
theorem expect_snd0 (c : Dev nD) (h : 0 < c.val) : (sched (F := F) m).expect (snd0Cell c) 0 = N := expect_one m c _ (duties_snd0 m c h)
omit [FloatOps F] in
theorem expect_rcv1 (c : Dev nD) (h : c.val < 7) : (sched (F := F) m).expect (rcv1Cell c) 0 = N := expect_one m c _ (duties_rcv1 m c h)
omit [FloatOps F] in
theorem expect_snd1 (c : Dev nD) (h : c.val < 7) : (sched (F := F) m).expect (snd1Cell c) 0 = N := expect_one m c _ (duties_snd1 m c h)

attribute [local sl_rounds] expect_rcv0 expect_rcv1 expect_snd0 expect_snd1 duties_rcv0 duties_rcv1 duties_snd0 duties_snd1 amount_dma payload_rcv0 payload_rcv1 payload_snd0 payload_snd1

set_option maxHeartbeats 4000000 in
set_option sl_exec.resultNames true in
theorem mid (K : Dev nD × Fin 5 → ℕ) (c : Dev nD) (h0 : 0 < c.val) (h7 : c.val < 7) (W : Waits sig Unit)
    (fy : Buf (Elt F) ((c : Thread nD τ).loc main_v1)) (fx : Buf (Elt F) ((c : Thread nD τ).loc cc0_scratch0))
    (fo : Buf (Elt F) ((c : Thread nD τ).loc cc0_scratch1)) (Q : PUnit → sProp 𝕄) :
    iprop(before m K c W fy fx fo ∗ (after m c (Yv m c) -∗ Q ⟨⟩))
      ⊢ wp frame (wpE (defs₀ (F := F)) 𝒱₀ (c : Thread nD τ) none) Set.univ
          (cc0_body xM (Memref.isWhole_whole _) yM (Memref.isWhole_whole _) xbM (Memref.isWhole_whole _) obM (Memref.isWhole_whole _)
            loM (Memref.isWhole_whole _) hiM (Memref.isWhole_whole _) cc0_scratch4 cc0_scratch5 cc0_scratch6 cc0_scratch7) Q := by
  have hc1 : k0_cond1 c = 1#1 := by clear * - c h0; decide +kernel +revert
  have hc2 : k0_cond2 c = 1#1 := by clear * - c h7; decide +kernel +revert
  have hd3 := dev3_eq c hc1
  have hd4 := dev4_eq c hc2
  simp only [cc0_body_eq_skeleton]; unfold cc0_body_skel
  simp only [k0_part40_eq_skeleton]; unfold k0_part40_skel
  rw [wp_bind, wp_bind]
  unfold before ghost rcvCreds xinAll youtAll xslAll oslAll semsAll
  rw [if_pos h0, if_pos h7]
  iintro ⟨⟨⟨#HI, ⟨HatB, HatS0, HatS1, HatR0, HatR1⟩, ⟨#HrBN, #HrBP, #HrR0, #HrR1, #HrS0, #HrS1⟩, ⟨HtBN, HtBP, HtR0, HtR1, HtS0, HtS1⟩⟩,
    HcB, ⟨HcR0, HcR1⟩, #Hlev, Hlo, Hhi, HO, HrowF, HrowL, ⟨HX0, HX1, HX2, HX3, HX4, HX5, HX6, HX7, HX8, HX9, HX10, HX11, HX12, HX13, HX14, HX15⟩,
    ⟨HY0, HY1, HY2, HY3, HY4, HY5, HY6, HY7, HY8, HY9, HY10, HY11, HY12, HY13, HY14, HY15⟩,
    ⟨HB0, HB1, HB2, HB3, HB4, HB5, HB6, HB7⟩, ⟨HQ0, HQ1, HQ2, HQ3⟩, ⟨Hs0, Hs1, Hs2, Hs3, Hs4, Hs5, Hs6, Hs7, Ht0, Ht1, Ht2, Ht3⟩⟩, Hk⟩
  iapply (part1_run m K c W) $$ [-]
  isplitr; · iexact HI
  isplitl [HatB]; · iexact HatB
  isplitr; · iexact HrBN
  isplitr; · iexact HrBP
  isplitl [HtBN]; · iexact HtBN
  isplitl [HtBP]; · iexact HtBP
  isplitl [HcB]; · iexact HcB
  isplitr; · iexact Hlev
  isplitl [Hlo]; · iexact Hlo
  isplitl [Hhi]; · iexact Hhi
  isplitl [HO]; · iexact HO
  unfold keepLo keepHi O₂
  simp only [if_pos h0, if_pos h7]
  iintro ⟨HatB, HpF, HpT, -, -, HO⟩
  simp only [k0_part2_eq_skeleton]; unfold k0_part2_skel
  rw [dif_pos hc1, dif_pos hc2]
  simp only [Prog.lift, Prog.bind_op, Prog.bind_ret, Prog.pure_eq_ret]
  iapply (send_hi m K c _ hd3 h0 (tallyAt (rcv0Cell (nxt c)) () N) (insert (SemLoc.reg barS, ()) W)) $$ [HrowF HpF HO HtS0 HtR1]
  · isplitr; · iexact HI
    isplitl [HrowF]; · iexact HrowF
    isplitl [HpF]; · iexact HpF
    isplitl [HO]; · iexact HO
    isplitl [HtS0]; · iexact HtS0
    isplitr; · iexact HrS0
    isplitl [HtR1]; · iexact HtR1
    iexact HrR1
  iintro ⟨HcS0, HO⟩
  iapply (send_lo m K c _ hd4 h7 0 (insert (SemLoc.reg barS, ()) W)) $$ [HrowL HpT HO HtS1 HtR0]
  · isplitr; · iexact HI
    isplitl [HrowL]; · iexact HrowL
    isplitl [HpT]; · iexact HpT
    isplitl [HO]; · rw [zero_add]; iexact HO
    isplitl [HtS1]; · iexact HtS1
    isplitr; · iexact HrS1
    isplitl [HtR0]; · iexact HtR0
    iexact HrR0
  iintro ⟨HcS1, HO⟩
  ihave #HJ : invs m K c $$ []
  · iexact HI
  unfold invs
  icases HI with ⟨#HIbar, #HIs0, #HIs1, #HIr0, #HIr1, -, -, -, -⟩
  sl_exec (disch := (clear * - c h0 h7; decide +kernel +revert))
  have e0 : ∀ (r : Fin 512) (b : Fin 1024), mid.sl.dma18 m c fo (ix2 r b) = yrow m c (0 + r.val) b := by
    clear * - h0 h7
    exact chunk_ld m c 0 inb_S8192x1024_S512x1024_0_0 0 (by decide) _ _ _ _ 0 _ _ _ _ _ _ _ _ _ _ _ _ _ _ _ _ _
      (A_lo m c 0 _ _ _ _ _ _ _ _ h0 _ _) (B_mid m c 0 0 _ _ _ _ _ _ _ _ _ _ 512 1 _ _ _ _ _ rfl)
  have e1 : ∀ (r : Fin 512) (b : Fin 1024), mid.sl.dma36 m c fo (ix2 r b) = yrow m c (512 + r.val) b := by
    clear * - h0 h7
    exact chunk_ld m c 512 inb_S8192x1024_S512x1024_512_0 1 (by decide) _ _ _ _ 1 _ _ _ _ _ _ _ _ _ _ _ _ _ _ _ _ _
      (A_mid m c 512 1 _ _ _ _ _ _ _ _ _ _ 0 0 _ _ _ _ _ rfl) (B_mid m c 512 1 _ _ _ _ _ _ _ _ _ _ 1024 2 _ _ _ _ _ rfl)
  have e2 : ∀ (r : Fin 512) (b : Fin 1024), mid.sl.dma54 m c fo (ix2 r b) = yrow m c (1024 + r.val) b := by
    clear * - h0 h7
    exact chunk_ld m c 1024 inb_S8192x1024_S512x1024_1024_0 2 (by decide) _ _ _ _ 2 _ _ _ _ _ _ _ _ _ _ _ _ _ _ _ _ _
      (A_mid m c 1024 2 _ _ _ _ _ _ _ _ _ _ 512 1 _ _ _ _ _ rfl) (B_mid m c 1024 2 _ _ _ _ _ _ _ _ _ _ 1536 3 _ _ _ _ _ rfl)
  have e3 : ∀ (r : Fin 512) (b : Fin 1024), mid.sl.dma72 m c fo (ix2 r b) = yrow m c (1536 + r.val) b := by
    clear * - h0 h7
    exact chunk_ld m c 1536 inb_S8192x1024_S512x1024_1536_0 3 (by decide) _ _ _ _ 3 _ _ _ _ _ _ _ _ _ _ _ _ _ _ _ _ _
      (show ∀ b, payR (row1 (mid.sl.v240 m c)) (row1 (mid.sl.v245 m c)) (row1 (mid.sl.v294 m c)) (ix3 0 0 b) = yrow m c 1536 b from
        A_mid m c 1536 3 _ _ _ _ _ _ _ _ _ _ 1024 2 _ _ _ _ _ rfl) (B_mid m c 1536 3 _ _ _ _ _ _ _ _ _ _ 2048 4 _ _ _ _ _ rfl)
  have e4 : ∀ (r : Fin 512) (b : Fin 1024), mid.sl.dma90 m c fo (ix2 r b) = yrow m c (2048 + r.val) b := by
    clear * - h0 h7
    exact chunk_ld m c 2048 inb_S8192x1024_S512x1024_2048_0 0 (by decide) _ _ _ _ 4 _ _ _ _ _ _ _ _ _ _ _ _ _ _ _ _ _
      (A_mid m c 2048 4 _ _ _ _ _ _ _ _ _ _ 1536 3 _ _ _ _ _ rfl) (show ∀ b, payR (row1 (mid.sl.v373 m c)) (row1 (mid.sl.v377 m c)) (row1 (mid.sl.v382 m c)) (ix3 0 0 b) = yrow m c (2048 + 511) b from
        B_mid m c 2048 4 _ _ _ _ _ _ _ _ _ _ 2560 5 _ _ _ _ _ rfl)
  have e5 : ∀ (r : Fin 512) (b : Fin 1024), mid.sl.dma108 m c fo (ix2 r b) = yrow m c (2560 + r.val) b := by
    clear * - h0 h7
    exact chunk_ld m c 2560 inb_S8192x1024_S512x1024_2560_0 1 (by decide) _ _ _ _ 5 _ _ _ _ _ _ _ _ _ _ _ _ _ _ _ _ _
      (A_mid m c 2560 5 _ _ _ _ _ _ _ _ _ _ 2048 4 _ _ _ _ _ rfl) (B_mid m c 2560 5 _ _ _ _ _ _ _ _ _ _ 3072 6 _ _ _ _ _ rfl)
  have e6 : ∀ (r : Fin 512) (b : Fin 1024), mid.sl.dma126 m c fo (ix2 r b) = yrow m c (3072 + r.val) b := by
    clear * - h0 h7
    exact chunk_ld m c 3072 inb_S8192x1024_S512x1024_3072_0 2 (by decide) _ _ _ _ 6 _ _ _ _ _ _ _ _ _ _ _ _ _ _ _ _ _
      (A_mid m c 3072 6 _ _ _ _ _ _ _ _ _ _ 2560 5 _ _ _ _ _ rfl) (B_mid m c 3072 6 _ _ _ _ _ _ _ _ _ _ 3584 7 _ _ _ _ _ rfl)
  have e7 : ∀ (r : Fin 512) (b : Fin 1024), mid.sl.dma144 m c fo (ix2 r b) = yrow m c (3584 + r.val) b := by
    clear * - h0 h7
    exact chunk_ld m c 3584 inb_S8192x1024_S512x1024_3584_0 3 (by decide) _ _ _ _ 7 _ _ _ _ _ _ _ _ _ _ _ _ _ _ _ _ _
      (A_mid m c 3584 7 _ _ _ _ _ _ _ _ _ _ 3072 6 _ _ _ _ _ rfl) (B_mid m c 3584 7 _ _ _ _ _ _ _ _ _ _ 4096 0 _ _ _ _ _ rfl)
  have e8 : ∀ (r : Fin 512) (b : Fin 1024), mid.sl.dma162 m c fo (ix2 r b) = yrow m c (4096 + r.val) b := by
    clear * - h0 h7
    exact chunk_rows m c 4096 inb_S8192x1024_S512x1024_4096_0 0 (by decide) _ _ _ _ (mid.sl.v623 m c) (mid.sl.v627 m c) (mid.sl.v632 m c) _ _
      (ld_eq m c 0 4096 _ _ _ _ 0 510 _) (ld_eq m c 0 4096 _ _ _ _ 1 510 _) (ld_eq m c 0 4096 _ _ _ _ 2 510 _)
      (A_mid m c 4096 0 _ _ _ _ _ _ _ _ _ _ 3584 7 _ _ _ _ _ rfl) (B_mid m c 4096 0 _ _ _ _ _ _ _ _ _ _ 4608 1 _ _ _ _ _ rfl)
  have e9 : ∀ (r : Fin 512) (b : Fin 1024), mid.sl.dma180 m c fo (ix2 r b) = yrow m c (4608 + r.val) b := by
    clear * - h0 h7
    exact chunk_ld m c 4608 inb_S8192x1024_S512x1024_4608_0 1 (by decide) _ _ _ _ 1 _ _ _ _ _ _ _ _ _ _ _ _ _ _ _ _ _
      (show ∀ b, payR (row1 (mid.sl.v661 m c)) (row1 (mid.sl.v666 m c)) (row1 (mid.sl.v720 m c)) (ix3 0 0 b) = yrow m c 4608 b from
        A_mid m c 4608 1 _ _ _ _ _ _ _ _ _ _ 4096 0 _ _ _ _ _ rfl) (B_mid m c 4608 1 _ _ _ _ _ _ _ _ _ _ 5120 2 _ _ _ _ _ rfl)
  have e10 : ∀ (r : Fin 512) (b : Fin 1024), mid.sl.dma198 m c fo (ix2 r b) = yrow m c (5120 + r.val) b := by
    clear * - h0 h7
    exact chunk_ld m c 5120 inb_S8192x1024_S512x1024_5120_0 2 (by decide) _ _ _ _ 2 _ _ _ _ _ _ _ _ _ _ _ _ _ _ _ _ _
      (A_mid m c 5120 2 _ _ _ _ _ _ _ _ _ _ 4608 1 _ _ _ _ _ rfl) (B_mid m c 5120 2 _ _ _ _ _ _ _ _ _ _ 5632 3 _ _ _ _ _ rfl)
  have e11 : ∀ (r : Fin 512) (b : Fin 1024), mid.sl.dma216 m c fo (ix2 r b) = yrow m c (5632 + r.val) b := by
    clear * - h0 h7
    exact chunk_ld m c 5632 inb_S8192x1024_S512x1024_5632_0 3 (by decide) _ _ _ _ 3 _ _ _ _ _ _ _ _ _ _ _ _ _ _ _ _ _
      (A_mid m c 5632 3 _ _ _ _ _ _ _ _ _ _ 5120 2 _ _ _ _ _ rfl) (B_mid m c 5632 3 _ _ _ _ _ _ _ _ _ _ 6144 4 _ _ _ _ _ rfl)
  have e12 : ∀ (r : Fin 512) (b : Fin 1024), mid.sl.dma234 m c fo (ix2 r b) = yrow m c (6144 + r.val) b := by
    clear * - h0 h7
    exact chunk_ld m c 6144 inb_S8192x1024_S512x1024_6144_0 0 (by decide) _ _ _ _ 4 _ _ _ _ _ _ _ _ _ _ _ _ _ _ _ _ _
      (A_mid m c 6144 4 _ _ _ _ _ _ _ _ _ _ 5632 3 _ _ _ _ _ rfl) (show ∀ b, payR (row1 (mid.sl.v926 m c)) (row1 (mid.sl.v930 m c)) (row1 (mid.sl.v935 m c)) (ix3 0 0 b) = yrow m c (6144 + 511) b from
        B_mid m c 6144 4 _ _ _ _ _ _ _ _ _ _ 6656 5 _ _ _ _ _ rfl)
  have e13 : ∀ (r : Fin 512) (b : Fin 1024), mid.sl.dma252 m c fo (ix2 r b) = yrow m c (6656 + r.val) b := by
    clear * - h0 h7
    exact chunk_ld m c 6656 inb_S8192x1024_S512x1024_6656_0 1 (by decide) _ _ _ _ 5 _ _ _ _ _ _ _ _ _ _ _ _ _ _ _ _ _
      (show ∀ b, payR (row1 (mid.sl.v930 m c)) (row1 (mid.sl.v935 m c)) (row1 (mid.sl.v984 m c)) (ix3 0 0 b) = yrow m c 6656 b from
        A_mid m c 6656 5 _ _ _ _ _ _ _ _ _ _ 6144 4 _ _ _ _ _ rfl) (B_mid m c 6656 5 _ _ _ _ _ _ _ _ _ _ 7168 6 _ _ _ _ _ rfl)
  have e14 : ∀ (r : Fin 512) (b : Fin 1024), mid.sl.dma270 m c fo (ix2 r b) = yrow m c (7168 + r.val) b := by
    clear * - h0 h7
    exact chunk_ld m c 7168 inb_S8192x1024_S512x1024_7168_0 2 (by decide) _ _ _ _ 6 _ _ _ _ _ _ _ _ _ _ _ _ _ _ _ _ _
      (A_mid m c 7168 6 _ _ _ _ _ _ _ _ _ _ 6656 5 _ _ _ _ _ rfl) (B_mid m c 7168 6 _ _ _ _ _ _ _ _ _ _ 7680 7 _ _ _ _ _ rfl)
  have e15 : ∀ (r : Fin 512) (b : Fin 1024), mid.sl.dma288 m c fo (ix2 r b) = yrow m c (7680 + r.val) b := by
    clear * - h0 h7
    exact chunk_ld m c 7680 inb_S8192x1024_S512x1024_7680_0 3 (by decide) _ _ _ _ 7 _ _ _ _ _ _ _ _ _ _ _ _ _ _ _ _ _
      (show ∀ b, payR (row1 (mid.sl.v1062 m c)) (row1 (mid.sl.v1067 m c)) (row1 (mid.sl.v1111 m c)) (ix3 0 0 b) = yrow m c 7680 b from
        A_mid m c 7680 7 _ _ _ _ _ _ _ _ _ _ 7168 6 _ _ _ _ _ rfl) (B_hi m c 7 _ _ _ _ _ _ _ _ h7 _ _)
  ihave HY0 := (copy_rows m c 0 _ _ e0 fy) $$ HY0
  ihave HY1 := (copy_rows m c 512 _ _ e1 fy) $$ HY1
  ihave HY2 := (copy_rows m c 1024 _ _ e2 fy) $$ HY2
  ihave HY3 := (copy_rows m c 1536 _ _ e3 fy) $$ HY3
  ihave HY4 := (copy_rows m c 2048 _ _ e4 fy) $$ HY4
  ihave HY5 := (copy_rows m c 2560 _ _ e5 fy) $$ HY5
  ihave HY6 := (copy_rows m c 3072 _ _ e6 fy) $$ HY6
  ihave HY7 := (copy_rows m c 3584 _ _ e7 fy) $$ HY7
  ihave HY8 := (copy_rows m c 4096 _ _ e8 fy) $$ HY8
  ihave HY9 := (copy_rows m c 4608 _ _ e9 fy) $$ HY9
  ihave HY10 := (copy_rows m c 5120 _ _ e10 fy) $$ HY10
  ihave HY11 := (copy_rows m c 5632 _ _ e11 fy) $$ HY11
  ihave HY12 := (copy_rows m c 6144 _ _ e12 fy) $$ HY12
  ihave HY13 := (copy_rows m c 6656 _ _ e13 fy) $$ HY13
  ihave HY14 := (copy_rows m c 7168 _ _ e14 fy) $$ HY14
  ihave HY15 := (copy_rows m c 7680 _ _ e15 fy) $$ HY15
  imod (close_cells m K c (0 + 1) (0 + 1) (0 + 1) (0 + 1) (duties_later m (snd0Cell c)) (duties_later m (snd1Cell c)) (duties_later m (rcv0Cell c)) (duties_later m (rcv1Cell c))) $$ [HatB HatS0 HatS1 HatR0 HatR1] with HZ
  · isplitr; · unfold invs; iexact HJ
    isplitl [HatB]; · iexact HatB
    isplitl [HatS0]; · iexact HatS0
    isplitl [HatS1]; · iexact HatS1
    isplitl [HatR0]; · iexact HatR0
    iexact HatR1
  rw [wp_ret]; imodintro
  iapply Hk
  unfold after xinAll youtAll xslAny oslAny semsAll
  isplitl [HatS0_pay1]; · iexact HatS0_pay1
  isplitl [HatS1_pay1]; · iexact HatS1_pay1
  isplitl [HX0 HX1 HX2 HX3 HX4 HX5 HX6 HX7 HX8 HX9 HX10 HX11 HX12 HX13 HX14 HX15]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    iexact HX15
  isplitl [HY0 HY1 HY2 HY3 HY4 HY5 HY6 HY7 HY8 HY9 HY10 HY11 HY12 HY13 HY14 HY15]
  · isplitl [HY0]; · iexact HY0
    isplitl [HY1]; · iexact HY1
    isplitl [HY2]; · iexact HY2
    isplitl [HY3]; · iexact HY3
    isplitl [HY4]; · iexact HY4
    isplitl [HY5]; · iexact HY5
    isplitl [HY6]; · iexact HY6
    isplitl [HY7]; · iexact HY7
    isplitl [HY8]; · iexact HY8
    isplitl [HY9]; · iexact HY9
    isplitl [HY10]; · iexact HY10
    isplitl [HY11]; · iexact HY11
    isplitl [HY12]; · iexact HY12
    isplitl [HY13]; · iexact HY13
    isplitl [HY14]; · iexact HY14
    iexact HY15
  isplitl [HB0 HB1 HB2 HB3 HB4 HB5 HB6 HB7]
  · isplitl [HB0]; · iexists _; iexact HB0
    isplitl [HB1]; · iexists _; iexact HB1
    isplitl [HB2]; · iexists _; iexact HB2
    isplitl [HB3]; · iexists _; iexact HB3
    isplitl [HB4]; · iexists _; iexact HB4
    isplitl [HB5]; · iexists _; iexact HB5
    isplitl [HB6]; · iexists _; iexact HB6
    iexists _; iexact HB7
  isplitl [HQ0 HQ1 HQ2 HQ3]
  · isplitl [HQ0]; · iexists _; iexact HQ0
    isplitl [HQ1]; · iexists _; iexact HQ1
    isplitl [HQ2]; · iexists _; iexact HQ2
    iexists _; iexact HQ3
  isplitl [HatR0_pay1]; · iexists _; iexact HatR0_pay1
  isplitl [HatR1_pay1]; · iexists _; iexact HatR1_pay1
  isplitl [Hs0 Hs1 Hs2 Hs3 Hs4 Hs5 Hs6 Hs7 Ht0 Ht1 Ht2 Ht3]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Ht0]; · iexact Ht0
    isplitl [Ht1]; · iexact Ht1
    isplitl [Ht2]; · iexact Ht2
    iexact Ht3
  isplitl [HZ]; · iexact HZ
  iexists _; iexact HO

end Cert.Halo

end
-- ==== Proof.First.lean ====
/-
# The run of a device without a device before
-/
module

public import proofs.«01_k».proof.Proof.Body

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] expect_rcv0 expect_rcv1 expect_snd0 expect_snd1 duties_rcv0 duties_rcv1 duties_snd0 duties_snd1 amount_dma payload_rcv0 payload_rcv1 payload_snd0 payload_snd1

set_option maxHeartbeats 4000000 in
set_option sl_exec.resultNames true in
theorem first (K : Dev nD × Fin 5 → ℕ) (c : Dev nD) (h0 : ¬ 0 < c.val) (h7 : c.val < 7) (W : Waits sig Unit)
    (fy : Buf (Elt F) ((c : Thread nD τ).loc main_v1)) (fx : Buf (Elt F) ((c : Thread nD τ).loc cc0_scratch0))
    (fo : Buf (Elt F) ((c : Thread nD τ).loc cc0_scratch1)) (Q : PUnit → sProp 𝕄) :
    iprop(before m K c W fy fx fo ∗ (after m c (Yv m c) -∗ Q ⟨⟩))
      ⊢ wp frame (wpE (defs₀ (F := F)) 𝒱₀ (c : Thread nD τ) none) Set.univ
          (cc0_body xM (Memref.isWhole_whole _) yM (Memref.isWhole_whole _) xbM (Memref.isWhole_whole _) obM (Memref.isWhole_whole _)
            loM (Memref.isWhole_whole _) hiM (Memref.isWhole_whole _) cc0_scratch4 cc0_scratch5 cc0_scratch6 cc0_scratch7) Q := by
  have hc1 : ¬ k0_cond1 c = 1#1 := by clear * - c h0; decide +kernel +revert
  have hc2 : k0_cond2 c = 1#1 := by clear * - c h7; decide +kernel +revert
  have hd4 := dev4_eq c hc2
  simp only [cc0_body_eq_skeleton]; unfold cc0_body_skel
  simp only [k0_part40_eq_skeleton]; unfold k0_part40_skel
  rw [wp_bind, wp_bind]
  unfold before ghost rcvCreds xinAll youtAll xslAll oslAll semsAll
  rw [if_neg h0, if_pos h7]
  iintro ⟨⟨⟨#HI, ⟨HatB, HatS0, HatS1, HatR0, HatR1⟩, ⟨#HrBN, #HrBP, #HrR0, #HrR1, #HrS0, #HrS1⟩, ⟨HtBN, HtBP, HtR0, HtR1, HtS0, HtS1⟩⟩,
    HcB, ⟨HcR0, HcR1⟩, #Hlev, Hlo, Hhi, HO, HrowF, HrowL, ⟨HX0, HX1, HX2, HX3, HX4, HX5, HX6, HX7, HX8, HX9, HX10, HX11, HX12, HX13, HX14, HX15⟩,
    ⟨HY0, HY1, HY2, HY3, HY4, HY5, HY6, HY7, HY8, HY9, HY10, HY11, HY12, HY13, HY14, HY15⟩,
    ⟨HB0, HB1, HB2, HB3, HB4, HB5, HB6, HB7⟩, ⟨HQ0, HQ1, HQ2, HQ3⟩, ⟨Hs0, Hs1, Hs2, Hs3, Hs4, Hs5, Hs6, Hs7, Ht0, Ht1, Ht2, Ht3⟩⟩, Hk⟩
  iapply (part1_run m K c W) $$ [-]
  isplitr; · iexact HI
  isplitl [HatB]; · iexact HatB
  isplitr; · iexact HrBN
  isplitr; · iexact HrBP
  isplitl [HtBN]; · iexact HtBN
  isplitl [HtBP]; · iexact HtBP
  isplitl [HcB]; · iexact HcB
  isplitr; · iexact Hlev
  isplitl [Hlo]; · iexact Hlo
  isplitl [Hhi]; · iexact Hhi
  isplitl [HO]; · iexact HO
  unfold keepLo keepHi O₂
  simp only [if_neg h0, if_pos h7, add_zero]
  iintro ⟨HatB, HpF, HpT, HkL, -, HO⟩
  simp only [k0_part2_eq_skeleton]; unfold k0_part2_skel
  rw [dif_neg hc1, dif_pos hc2]
  simp only [Prog.lift, Prog.bind_op, Prog.bind_ret, Prog.pure_eq_ret]
  iapply (send_lo m K c _ hd4 h7 0 (insert (SemLoc.reg barS, ()) W)) $$ [HrowL HpT HO HtS1 HtR0]
  · isplitr; · iexact HI
    isplitl [HrowL]; · iexact HrowL
    isplitl [HpT]; · iexact HpT
    isplitl [HO]; · rw [zero_add]; iexact HO
    isplitl [HtS1]; · iexact HtS1
    isplitr; · iexact HrS1
    isplitl [HtR0]; · iexact HtR0
    iexact HrR0
  iintro ⟨HcS1, HO⟩
  ihave #HJ : invs m K c $$ []
  · iexact HI
  unfold invs
  icases HI with ⟨#HIbar, #HIs0, #HIs1, #HIr0, #HIr1, -, -, -, -⟩
  sl_exec (disch := (clear * - c h0 h7; decide +kernel +revert))
  have e0 : ∀ (r : Fin 512) (b : Fin 1024), first.sl.dma16 m c fo (ix2 r b) = yrow m c (0 + r.val) b := by
    clear * - h0 h7
    exact chunk_ld m c 0 inb_S8192x1024_S512x1024_0_0 0 (by decide) _ _ _ _ 0 _ _ _ _ _ _ _ _ _ _ _ _ _ _ _ _ _
      (A_edge m c 0 _ _ _ _ (Nat.eq_zero_of_not_pos h0) _) (B_mid m c 0 0 _ _ _ _ _ _ _ _ _ _ 512 1 _ _ _ _ _ rfl)
  have e1 : ∀ (r : Fin 512) (b : Fin 1024), first.sl.dma34 m c fo (ix2 r b) = yrow m c (512 + r.val) b := by
    clear * - h0 h7
    exact chunk_ld m c 512 inb_S8192x1024_S512x1024_512_0 1 (by decide) _ _ _ _ 1 _ _ _ _ _ _ _ _ _ _ _ _ _ _ _ _ _
      (A_mid m c 512 1 _ _ _ _ _ _ _ _ _ _ 0 0 _ _ _ _ _ rfl) (B_mid m c 512 1 _ _ _ _ _ _ _ _ _ _ 1024 2 _ _ _ _ _ rfl)
  have e2 : ∀ (r : Fin 512) (b : Fin 1024), first.sl.dma52 m c fo (ix2 r b) = yrow m c (1024 + r.val) b := by
    clear * - h0 h7
    exact chunk_ld m c 1024 inb_S8192x1024_S512x1024_1024_0 2 (by decide) _ _ _ _ 2 _ _ _ _ _ _ _ _ _ _ _ _ _ _ _ _ _
      (A_mid m c 1024 2 _ _ _ _ _ _ _ _ _ _ 512 1 _ _ _ _ _ rfl) (B_mid m c 1024 2 _ _ _ _ _ _ _ _ _ _ 1536 3 _ _ _ _ _ rfl)
  have e3 : ∀ (r : Fin 512) (b : Fin 1024), first.sl.dma70 m c fo (ix2 r b) = yrow m c (1536 + r.val) b := by
    clear * - h0 h7
    exact chunk_ld m c 1536 inb_S8192x1024_S512x1024_1536_0 3 (by decide) _ _ _ _ 3 _ _ _ _ _ _ _ _ _ _ _ _ _ _ _ _ _
      (show ∀ b, payR (row1 (first.sl.v240 m c)) (row1 (first.sl.v245 m c)) (row1 (first.sl.v294 m c)) (ix3 0 0 b) = yrow m c 1536 b from
        A_mid m c 1536 3 _ _ _ _ _ _ _ _ _ _ 1024 2 _ _ _ _ _ rfl) (B_mid m c 1536 3 _ _ _ _ _ _ _ _ _ _ 2048 4 _ _ _ _ _ rfl)
  have e4 : ∀ (r : Fin 512) (b : Fin 1024), first.sl.dma88 m c fo (ix2 r b) = yrow m c (2048 + r.val) b := by
    clear * - h0 h7
    exact chunk_ld m c 2048 inb_S8192x1024_S512x1024_2048_0 0 (by decide) _ _ _ _ 4 _ _ _ _ _ _ _ _ _ _ _ _ _ _ _ _ _
      (A_mid m c 2048 4 _ _ _ _ _ _ _ _ _ _ 1536 3 _ _ _ _ _ rfl) (show ∀ b, payR (row1 (first.sl.v373 m c)) (row1 (first.sl.v377 m c)) (row1 (first.sl.v382 m c)) (ix3 0 0 b) = yrow m c (2048 + 511) b from
        B_mid m c 2048 4 _ _ _ _ _ _ _ _ _ _ 2560 5 _ _ _ _ _ rfl)
  have e5 : ∀ (r : Fin 512) (b : Fin 1024), first.sl.dma106 m c fo (ix2 r b) = yrow m c (2560 + r.val) b := by
    clear * - h0 h7
    exact chunk_ld m c 2560 inb_S8192x1024_S512x1024_2560_0 1 (by decide) _ _ _ _ 5 _ _ _ _ _ _ _ _ _ _ _ _ _ _ _ _ _
      (A_mid m c 2560 5 _ _ _ _ _ _ _ _ _ _ 2048 4 _ _ _ _ _ rfl) (B_mid m c 2560 5 _ _ _ _ _ _ _ _ _ _ 3072 6 _ _ _ _ _ rfl)
  have e6 : ∀ (r : Fin 512) (b : Fin 1024), first.sl.dma124 m c fo (ix2 r b) = yrow m c (3072 + r.val) b := by
    clear * - h0 h7
    exact chunk_ld m c 3072 inb_S8192x1024_S512x1024_3072_0 2 (by decide) _ _ _ _ 6 _ _ _ _ _ _ _ _ _ _ _ _ _ _ _ _ _
      (A_mid m c 3072 6 _ _ _ _ _ _ _ _ _ _ 2560 5 _ _ _ _ _ rfl) (B_mid m c 3072 6 _ _ _ _ _ _ _ _ _ _ 3584 7 _ _ _ _ _ rfl)
  have e7 : ∀ (r : Fin 512) (b : Fin 1024), first.sl.dma142 m c fo (ix2 r b) = yrow m c (3584 + r.val) b := by
    clear * - h0 h7
    exact chunk_ld m c 3584 inb_S8192x1024_S512x1024_3584_0 3 (by decide) _ _ _ _ 7 _ _ _ _ _ _ _ _ _ _ _ _ _ _ _ _ _
      (A_mid m c 3584 7 _ _ _ _ _ _ _ _ _ _ 3072 6 _ _ _ _ _ rfl) (B_mid m c 3584 7 _ _ _ _ _ _ _ _ _ _ 4096 0 _ _ _ _ _ rfl)
  have e8 : ∀ (r : Fin 512) (b : Fin 1024), first.sl.dma160 m c fo (ix2 r b) = yrow m c (4096 + r.val) b := by
    clear * - h0 h7
    exact chunk_rows m c 4096 inb_S8192x1024_S512x1024_4096_0 0 (by decide) _ _ _ _ (first.sl.v623 m c) (first.sl.v627 m c) (first.sl.v632 m c) _ _
      (ld_eq m c 0 4096 _ _ _ _ 0 510 _) (ld_eq m c 0 4096 _ _ _ _ 1 510 _) (ld_eq m c 0 4096 _ _ _ _ 2 510 _)
      (A_mid m c 4096 0 _ _ _ _ _ _ _ _ _ _ 3584 7 _ _ _ _ _ rfl) (B_mid m c 4096 0 _ _ _ _ _ _ _ _ _ _ 4608 1 _ _ _ _ _ rfl)
  have e9 : ∀ (r : Fin 512) (b : Fin 1024), first.sl.dma178 m c fo (ix2 r b) = yrow m c (4608 + r.val) b := by
    clear * - h0 h7
    exact chunk_ld m c 4608 inb_S8192x1024_S512x1024_4608_0 1 (by decide) _ _ _ _ 1 _ _ _ _ _ _ _ _ _ _ _ _ _ _ _ _ _
      (show ∀ b, payR (row1 (first.sl.v661 m c)) (row1 (first.sl.v666 m c)) (row1 (first.sl.v720 m c)) (ix3 0 0 b) = yrow m c 4608 b from
        A_mid m c 4608 1 _ _ _ _ _ _ _ _ _ _ 4096 0 _ _ _ _ _ rfl) (B_mid m c 4608 1 _ _ _ _ _ _ _ _ _ _ 5120 2 _ _ _ _ _ rfl)
  have e10 : ∀ (r : Fin 512) (b : Fin 1024), first.sl.dma196 m c fo (ix2 r b) = yrow m c (5120 + r.val) b := by
    clear * - h0 h7
    exact chunk_ld m c 5120 inb_S8192x1024_S512x1024_5120_0 2 (by decide) _ _ _ _ 2 _ _ _ _ _ _ _ _ _ _ _ _ _ _ _ _ _
      (A_mid m c 5120 2 _ _ _ _ _ _ _ _ _ _ 4608 1 _ _ _ _ _ rfl) (B_mid m c 5120 2 _ _ _ _ _ _ _ _ _ _ 5632 3 _ _ _ _ _ rfl)
  have e11 : ∀ (r : Fin 512) (b : Fin 1024), first.sl.dma214 m c fo (ix2 r b) = yrow m c (5632 + r.val) b := by
    clear * - h0 h7
    exact chunk_ld m c 5632 inb_S8192x1024_S512x1024_5632_0 3 (by decide) _ _ _ _ 3 _ _ _ _ _ _ _ _ _ _ _ _ _ _ _ _ _
      (A_mid m c 5632 3 _ _ _ _ _ _ _ _ _ _ 5120 2 _ _ _ _ _ rfl) (B_mid m c 5632 3 _ _ _ _ _ _ _ _ _ _ 6144 4 _ _ _ _ _ rfl)
  have e12 : ∀ (r : Fin 512) (b : Fin 1024), first.sl.dma232 m c fo (ix2 r b) = yrow m c (6144 + r.val) b := by
    clear * - h0 h7
    exact chunk_ld m c 6144 inb_S8192x1024_S512x1024_6144_0 0 (by decide) _ _ _ _ 4 _ _ _ _ _ _ _ _ _ _ _ _ _ _ _ _ _
      (A_mid m c 6144 4 _ _ _ _ _ _ _ _ _ _ 5632 3 _ _ _ _ _ rfl) (show ∀ b, payR (row1 (first.sl.v926 m c)) (row1 (first.sl.v930 m c)) (row1 (first.sl.v935 m c)) (ix3 0 0 b) = yrow m c (6144 + 511) b from
        B_mid m c 6144 4 _ _ _ _ _ _ _ _ _ _ 6656 5 _ _ _ _ _ rfl)
  have e13 : ∀ (r : Fin 512) (b : Fin 1024), first.sl.dma250 m c fo (ix2 r b) = yrow m c (6656 + r.val) b := by
    clear * - h0 h7
    exact chunk_ld m c 6656 inb_S8192x1024_S512x1024_6656_0 1 (by decide) _ _ _ _ 5 _ _ _ _ _ _ _ _ _ _ _ _ _ _ _ _ _
      (show ∀ b, payR (row1 (first.sl.v930 m c)) (row1 (first.sl.v935 m c)) (row1 (first.sl.v984 m c)) (ix3 0 0 b) = yrow m c 6656 b from
        A_mid m c 6656 5 _ _ _ _ _ _ _ _ _ _ 6144 4 _ _ _ _ _ rfl) (B_mid m c 6656 5 _ _ _ _ _ _ _ _ _ _ 7168 6 _ _ _ _ _ rfl)
  have e14 : ∀ (r : Fin 512) (b : Fin 1024), first.sl.dma268 m c fo (ix2 r b) = yrow m c (7168 + r.val) b := by
    clear * - h0 h7
    exact chunk_ld m c 7168 inb_S8192x1024_S512x1024_7168_0 2 (by decide) _ _ _ _ 6 _ _ _ _ _ _ _ _ _ _ _ _ _ _ _ _ _
      (A_mid m c 7168 6 _ _ _ _ _ _ _ _ _ _ 6656 5 _ _ _ _ _ rfl) (B_mid m c 7168 6 _ _ _ _ _ _ _ _ _ _ 7680 7 _ _ _ _ _ rfl)
  have e15 : ∀ (r : Fin 512) (b : Fin 1024), first.sl.dma286 m c fo (ix2 r b) = yrow m c (7680 + r.val) b := by
    clear * - h0 h7
    exact chunk_ld m c 7680 inb_S8192x1024_S512x1024_7680_0 3 (by decide) _ _ _ _ 7 _ _ _ _ _ _ _ _ _ _ _ _ _ _ _ _ _
      (show ∀ b, payR (row1 (first.sl.v1062 m c)) (row1 (first.sl.v1067 m c)) (row1 (first.sl.v1111 m c)) (ix3 0 0 b) = yrow m c 7680 b from
        A_mid m c 7680 7 _ _ _ _ _ _ _ _ _ _ 7168 6 _ _ _ _ _ rfl) (B_hi m c 7 _ _ _ _ _ _ _ _ h7 _ _)
  ihave HY0 := (copy_rows m c 0 _ _ e0 fy) $$ HY0
  ihave HY1 := (copy_rows m c 512 _ _ e1 fy) $$ HY1
  ihave HY2 := (copy_rows m c 1024 _ _ e2 fy) $$ HY2
  ihave HY3 := (copy_rows m c 1536 _ _ e3 fy) $$ HY3
  ihave HY4 := (copy_rows m c 2048 _ _ e4 fy) $$ HY4
  ihave HY5 := (copy_rows m c 2560 _ _ e5 fy) $$ HY5
  ihave HY6 := (copy_rows m c 3072 _ _ e6 fy) $$ HY6
  ihave HY7 := (copy_rows m c 3584 _ _ e7 fy) $$ HY7
  ihave HY8 := (copy_rows m c 4096 _ _ e8 fy) $$ HY8
  ihave HY9 := (copy_rows m c 4608 _ _ e9 fy) $$ HY9
  ihave HY10 := (copy_rows m c 5120 _ _ e10 fy) $$ HY10
  ihave HY11 := (copy_rows m c 5632 _ _ e11 fy) $$ HY11
  ihave HY12 := (copy_rows m c 6144 _ _ e12 fy) $$ HY12
  ihave HY13 := (copy_rows m c 6656 _ _ e13 fy) $$ HY13
  ihave HY14 := (copy_rows m c 7168 _ _ e14 fy) $$ HY14
  ihave HY15 := (copy_rows m c 7680 _ _ e15 fy) $$ HY15
  imod (close_cells m K c 0 (0 + 1) 0 (0 + 1) (duties_none m c _ (no_copy0 c _ (.inl rfl) h0)) (duties_later m (snd1Cell c)) (duties_none m c _ (no_copy0 c _ (.inr rfl) h0)) (duties_later m (rcv1Cell c))) $$ [HatB HatS0 HatS1 HatR0 HatR1] with HZ
  · isplitr; · unfold invs; iexact HJ
    isplitl [HatB]; · iexact HatB
    isplitl [HatS0]; · iexact HatS0
    isplitl [HatS1]; · iexact HatS1
    isplitl [HatR0]; · iexact HatR0
    iexact HatR1
  rw [wp_ret]; imodintro
  iapply Hk
  unfold after xinAll youtAll xslAny oslAny semsAll
  isplitl [HrowF]; · iexact HrowF
  isplitl [HatS1_pay1]; · iexact HatS1_pay1
  isplitl [HX0 HX1 HX2 HX3 HX4 HX5 HX6 HX7 HX8 HX9 HX10 HX11 HX12 HX13 HX14 HX15]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    iexact HX15
  isplitl [HY0 HY1 HY2 HY3 HY4 HY5 HY6 HY7 HY8 HY9 HY10 HY11 HY12 HY13 HY14 HY15]
  · isplitl [HY0]; · iexact HY0
    isplitl [HY1]; · iexact HY1
    isplitl [HY2]; · iexact HY2
    isplitl [HY3]; · iexact HY3
    isplitl [HY4]; · iexact HY4
    isplitl [HY5]; · iexact HY5
    isplitl [HY6]; · iexact HY6
    isplitl [HY7]; · iexact HY7
    isplitl [HY8]; · iexact HY8
    isplitl [HY9]; · iexact HY9
    isplitl [HY10]; · iexact HY10
    isplitl [HY11]; · iexact HY11
    isplitl [HY12]; · iexact HY12
    isplitl [HY13]; · iexact HY13
    isplitl [HY14]; · iexact HY14
    iexact HY15
  isplitl [HB0 HB1 HB2 HB3 HB4 HB5 HB6 HB7]
  · isplitl [HB0]; · iexists _; iexact HB0
    isplitl [HB1]; · iexists _; iexact HB1
    isplitl [HB2]; · iexists _; iexact HB2
    isplitl [HB3]; · iexists _; iexact HB3
    isplitl [HB4]; · iexists _; iexact HB4
    isplitl [HB5]; · iexists _; iexact HB5
    isplitl [HB6]; · iexists _; iexact HB6
    iexists _; iexact HB7
  isplitl [HQ0 HQ1 HQ2 HQ3]
  · isplitl [HQ0]; · iexists _; iexact HQ0
    isplitl [HQ1]; · iexists _; iexact HQ1
    isplitl [HQ2]; · iexists _; iexact HQ2
    iexists _; iexact HQ3
  isplitl [HkL]; · iexact HkL
  isplitl [HatR1_pay1]; · iexists _; iexact HatR1_pay1
  isplitl [Hs0 Hs1 Hs2 Hs3 Hs4 Hs5 Hs6 Hs7 Ht0 Ht1 Ht2 Ht3]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Ht0]; · iexact Ht0
    isplitl [Ht1]; · iexact Ht1
    isplitl [Ht2]; · iexact Ht2
    iexact Ht3
  isplitl [HZ]; · iexact HZ
  iexists _; iexact HO

end Cert.Halo

end
-- ==== Proof.Last.lean ====
/-
# The run of a device without a device after
-/
module

public import proofs.«01_k».proof.Proof.Body

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local sl_rounds] expect_rcv0 expect_rcv1 expect_snd0 expect_snd1 duties_rcv0 duties_rcv1 duties_snd0 duties_snd1 amount_dma payload_rcv0 payload_rcv1 payload_snd0 payload_snd1

set_option maxHeartbeats 4000000 in
set_option sl_exec.resultNames true in
theorem last (K : Dev nD × Fin 5 → ℕ) (c : Dev nD) (h0 : 0 < c.val) (h7 : ¬ c.val < 7) (W : Waits sig Unit)
    (fy : Buf (Elt F) ((c : Thread nD τ).loc main_v1)) (fx : Buf (Elt F) ((c : Thread nD τ).loc cc0_scratch0))
    (fo : Buf (Elt F) ((c : Thread nD τ).loc cc0_scratch1)) (Q : PUnit → sProp 𝕄) :
    iprop(before m K c W fy fx fo ∗ (after m c (Yv m c) -∗ Q ⟨⟩))
      ⊢ wp frame (wpE (defs₀ (F := F)) 𝒱₀ (c : Thread nD τ) none) Set.univ
          (cc0_body xM (Memref.isWhole_whole _) yM (Memref.isWhole_whole _) xbM (Memref.isWhole_whole _) obM (Memref.isWhole_whole _)
            loM (Memref.isWhole_whole _) hiM (Memref.isWhole_whole _) cc0_scratch4 cc0_scratch5 cc0_scratch6 cc0_scratch7) Q := by
  have hc1 : k0_cond1 c = 1#1 := by clear * - c h0; decide +kernel +revert
  have hc2 : ¬ k0_cond2 c = 1#1 := by clear * - c h7; decide +kernel +revert
  have hd3 := dev3_eq c hc1
  simp only [cc0_body_eq_skeleton]; unfold cc0_body_skel
  simp only [k0_part40_eq_skeleton]; unfold k0_part40_skel
  rw [wp_bind, wp_bind]
  unfold before ghost rcvCreds xinAll youtAll xslAll oslAll semsAll
  rw [if_pos h0, if_neg h7]
  iintro ⟨⟨⟨#HI, ⟨HatB, HatS0, HatS1, HatR0, HatR1⟩, ⟨#HrBN, #HrBP, #HrR0, #HrR1, #HrS0, #HrS1⟩, ⟨HtBN, HtBP, HtR0, HtR1, HtS0, HtS1⟩⟩,
    HcB, ⟨HcR0, HcR1⟩, #Hlev, Hlo, Hhi, HO, HrowF, HrowL, ⟨HX0, HX1, HX2, HX3, HX4, HX5, HX6, HX7, HX8, HX9, HX10, HX11, HX12, HX13, HX14, HX15⟩,
    ⟨HY0, HY1, HY2, HY3, HY4, HY5, HY6, HY7, HY8, HY9, HY10, HY11, HY12, HY13, HY14, HY15⟩,
    ⟨HB0, HB1, HB2, HB3, HB4, HB5, HB6, HB7⟩, ⟨HQ0, HQ1, HQ2, HQ3⟩, ⟨Hs0, Hs1, Hs2, Hs3, Hs4, Hs5, Hs6, Hs7, Ht0, Ht1, Ht2, Ht3⟩⟩, Hk⟩
  iapply (part1_run m K c W) $$ [-]
  isplitr; · iexact HI
  isplitl [HatB]; · iexact HatB
  isplitr; · iexact HrBN
  isplitr; · iexact HrBP
  isplitl [HtBN]; · iexact HtBN
  isplitl [HtBP]; · iexact HtBP
  isplitl [HcB]; · iexact HcB
  isplitr; · iexact Hlev
  isplitl [Hlo]; · iexact Hlo
  isplitl [Hhi]; · iexact Hhi
  isplitl [HO]; · iexact HO
  unfold keepLo keepHi O₂
  simp only [if_pos h0, if_neg h7, zero_add]
  iintro ⟨HatB, HpF, HpT, -, HkH, HO⟩
  simp only [k0_part2_eq_skeleton]; unfold k0_part2_skel
  rw [dif_pos hc1, dif_neg hc2]
  simp only [Prog.lift, Prog.bind_op, Prog.bind_ret, Prog.pure_eq_ret]
  iapply (send_hi m K c _ hd3 h0 0 (insert (SemLoc.reg barS, ()) W)) $$ [HrowF HpF HO HtS0 HtR1]
  · isplitr; · iexact HI
    isplitl [HrowF]; · iexact HrowF
    isplitl [HpF]; · iexact HpF
    isplitl [HO]; · rw [zero_add]; iexact HO
    isplitl [HtS0]; · iexact HtS0
    isplitr; · iexact HrS0
    isplitl [HtR1]; · iexact HtR1
    iexact HrR1
  iintro ⟨HcS0, HO⟩
  ihave #HJ : invs m K c $$ []
  · iexact HI
  unfold invs
  icases HI with ⟨#HIbar, #HIs0, #HIs1, #HIr0, #HIr1, -, -, -, -⟩
  sl_exec (disch := (clear * - c h0 h7; decide +kernel +revert))
  have e0 : ∀ (r : Fin 512) (b : Fin 1024), last.sl.dma18 m c fo (ix2 r b) = yrow m c (0 + r.val) b := by
    clear * - h0 h7
    exact chunk_ld m c 0 inb_S8192x1024_S512x1024_0_0 0 (by decide) _ _ _ _ 0 _ _ _ _ _ _ _ _ _ _ _ _ _ _ _ _ _
      (A_lo m c 0 _ _ _ _ _ _ _ _ h0 _ _) (B_mid m c 0 0 _ _ _ _ _ _ _ _ _ _ 512 1 _ _ _ _ _ rfl)
  have e1 : ∀ (r : Fin 512) (b : Fin 1024), last.sl.dma36 m c fo (ix2 r b) = yrow m c (512 + r.val) b := by
    clear * - h0 h7
    exact chunk_ld m c 512 inb_S8192x1024_S512x1024_512_0 1 (by decide) _ _ _ _ 1 _ _ _ _ _ _ _ _ _ _ _ _ _ _ _ _ _
      (A_mid m c 512 1 _ _ _ _ _ _ _ _ _ _ 0 0 _ _ _ _ _ rfl) (B_mid m c 512 1 _ _ _ _ _ _ _ _ _ _ 1024 2 _ _ _ _ _ rfl)
  have e2 : ∀ (r : Fin 512) (b : Fin 1024), last.sl.dma54 m c fo (ix2 r b) = yrow m c (1024 + r.val) b := by
    clear * - h0 h7
    exact chunk_ld m c 1024 inb_S8192x1024_S512x1024_1024_0 2 (by decide) _ _ _ _ 2 _ _ _ _ _ _ _ _ _ _ _ _ _ _ _ _ _
      (A_mid m c 1024 2 _ _ _ _ _ _ _ _ _ _ 512 1 _ _ _ _ _ rfl) (B_mid m c 1024 2 _ _ _ _ _ _ _ _ _ _ 1536 3 _ _ _ _ _ rfl)
  have e3 : ∀ (r : Fin 512) (b : Fin 1024), last.sl.dma72 m c fo (ix2 r b) = yrow m c (1536 + r.val) b := by
    clear * - h0 h7
    exact chunk_ld m c 1536 inb_S8192x1024_S512x1024_1536_0 3 (by decide) _ _ _ _ 3 _ _ _ _ _ _ _ _ _ _ _ _ _ _ _ _ _
      (show ∀ b, payR (row1 (last.sl.v240 m c)) (row1 (last.sl.v245 m c)) (row1 (last.sl.v294 m c)) (ix3 0 0 b) = yrow m c 1536 b from
        A_mid m c 1536 3 _ _ _ _ _ _ _ _ _ _ 1024 2 _ _ _ _ _ rfl) (B_mid m c 1536 3 _ _ _ _ _ _ _ _ _ _ 2048 4 _ _ _ _ _ rfl)
  have e4 : ∀ (r : Fin 512) (b : Fin 1024), last.sl.dma90 m c fo (ix2 r b) = yrow m c (2048 + r.val) b := by
    clear * - h0 h7
    exact chunk_ld m c 2048 inb_S8192x1024_S512x1024_2048_0 0 (by decide) _ _ _ _ 4 _ _ _ _ _ _ _ _ _ _ _ _ _ _ _ _ _
      (A_mid m c 2048 4 _ _ _ _ _ _ _ _ _ _ 1536 3 _ _ _ _ _ rfl) (show ∀ b, payR (row1 (last.sl.v373 m c)) (row1 (last.sl.v377 m c)) (row1 (last.sl.v382 m c)) (ix3 0 0 b) = yrow m c (2048 + 511) b from
        B_mid m c 2048 4 _ _ _ _ _ _ _ _ _ _ 2560 5 _ _ _ _ _ rfl)
  have e5 : ∀ (r : Fin 512) (b : Fin 1024), last.sl.dma108 m c fo (ix2 r b) = yrow m c (2560 + r.val) b := by
    clear * - h0 h7
    exact chunk_ld m c 2560 inb_S8192x1024_S512x1024_2560_0 1 (by decide) _ _ _ _ 5 _ _ _ _ _ _ _ _ _ _ _ _ _ _ _ _ _
      (A_mid m c 2560 5 _ _ _ _ _ _ _ _ _ _ 2048 4 _ _ _ _ _ rfl) (B_mid m c 2560 5 _ _ _ _ _ _ _ _ _ _ 3072 6 _ _ _ _ _ rfl)
  have e6 : ∀ (r : Fin 512) (b : Fin 1024), last.sl.dma126 m c fo (ix2 r b) = yrow m c (3072 + r.val) b := by
    clear * - h0 h7
    exact chunk_ld m c 3072 inb_S8192x1024_S512x1024_3072_0 2 (by decide) _ _ _ _ 6 _ _ _ _ _ _ _ _ _ _ _ _ _ _ _ _ _
      (A_mid m c 3072 6 _ _ _ _ _ _ _ _ _ _ 2560 5 _ _ _ _ _ rfl) (B_mid m c 3072 6 _ _ _ _ _ _ _ _ _ _ 3584 7 _ _ _ _ _ rfl)
  have e7 : ∀ (r : Fin 512) (b : Fin 1024), last.sl.dma144 m c fo (ix2 r b) = yrow m c (3584 + r.val) b := by
    clear * - h0 h7
    exact chunk_ld m c 3584 inb_S8192x1024_S512x1024_3584_0 3 (by decide) _ _ _ _ 7 _ _ _ _ _ _ _ _ _ _ _ _ _ _ _ _ _
      (A_mid m c 3584 7 _ _ _ _ _ _ _ _ _ _ 3072 6 _ _ _ _ _ rfl) (B_mid m c 3584 7 _ _ _ _ _ _ _ _ _ _ 4096 0 _ _ _ _ _ rfl)
  have e8 : ∀ (r : Fin 512) (b : Fin 1024), last.sl.dma162 m c fo (ix2 r b) = yrow m c (4096 + r.val) b := by
    clear * - h0 h7
    exact chunk_rows m c 4096 inb_S8192x1024_S512x1024_4096_0 0 (by decide) _ _ _ _ (last.sl.v623 m c) (last.sl.v627 m c) (last.sl.v632 m c) _ _
      (ld_eq m c 0 4096 _ _ _ _ 0 510 _) (ld_eq m c 0 4096 _ _ _ _ 1 510 _) (ld_eq m c 0 4096 _ _ _ _ 2 510 _)
      (A_mid m c 4096 0 _ _ _ _ _ _ _ _ _ _ 3584 7 _ _ _ _ _ rfl) (B_mid m c 4096 0 _ _ _ _ _ _ _ _ _ _ 4608 1 _ _ _ _ _ rfl)
  have e9 : ∀ (r : Fin 512) (b : Fin 1024), last.sl.dma180 m c fo (ix2 r b) = yrow m c (4608 + r.val) b := by
    clear * - h0 h7
    exact chunk_ld m c 4608 inb_S8192x1024_S512x1024_4608_0 1 (by decide) _ _ _ _ 1 _ _ _ _ _ _ _ _ _ _ _ _ _ _ _ _ _
      (show ∀ b, payR (row1 (last.sl.v661 m c)) (row1 (last.sl.v666 m c)) (row1 (last.sl.v720 m c)) (ix3 0 0 b) = yrow m c 4608 b from
        A_mid m c 4608 1 _ _ _ _ _ _ _ _ _ _ 4096 0 _ _ _ _ _ rfl) (B_mid m c 4608 1 _ _ _ _ _ _ _ _ _ _ 5120 2 _ _ _ _ _ rfl)
  have e10 : ∀ (r : Fin 512) (b : Fin 1024), last.sl.dma198 m c fo (ix2 r b) = yrow m c (5120 + r.val) b := by
    clear * - h0 h7
    exact chunk_ld m c 5120 inb_S8192x1024_S512x1024_5120_0 2 (by decide) _ _ _ _ 2 _ _ _ _ _ _ _ _ _ _ _ _ _ _ _ _ _
      (A_mid m c 5120 2 _ _ _ _ _ _ _ _ _ _ 4608 1 _ _ _ _ _ rfl) (B_mid m c 5120 2 _ _ _ _ _ _ _ _ _ _ 5632 3 _ _ _ _ _ rfl)
  have e11 : ∀ (r : Fin 512) (b : Fin 1024), last.sl.dma216 m c fo (ix2 r b) = yrow m c (5632 + r.val) b := by
    clear * - h0 h7
    exact chunk_ld m c 5632 inb_S8192x1024_S512x1024_5632_0 3 (by decide) _ _ _ _ 3 _ _ _ _ _ _ _ _ _ _ _ _ _ _ _ _ _
      (A_mid m c 5632 3 _ _ _ _ _ _ _ _ _ _ 5120 2 _ _ _ _ _ rfl) (B_mid m c 5632 3 _ _ _ _ _ _ _ _ _ _ 6144 4 _ _ _ _ _ rfl)
  have e12 : ∀ (r : Fin 512) (b : Fin 1024), last.sl.dma234 m c fo (ix2 r b) = yrow m c (6144 + r.val) b := by
    clear * - h0 h7
    exact chunk_ld m c 6144 inb_S8192x1024_S512x1024_6144_0 0 (by decide) _ _ _ _ 4 _ _ _ _ _ _ _ _ _ _ _ _ _ _ _ _ _
      (A_mid m c 6144 4 _ _ _ _ _ _ _ _ _ _ 5632 3 _ _ _ _ _ rfl) (show ∀ b, payR (row1 (last.sl.v926 m c)) (row1 (last.sl.v930 m c)) (row1 (last.sl.v935 m c)) (ix3 0 0 b) = yrow m c (6144 + 511) b from
        B_mid m c 6144 4 _ _ _ _ _ _ _ _ _ _ 6656 5 _ _ _ _ _ rfl)
  have e13 : ∀ (r : Fin 512) (b : Fin 1024), last.sl.dma252 m c fo (ix2 r b) = yrow m c (6656 + r.val) b := by
    clear * - h0 h7
    exact chunk_ld m c 6656 inb_S8192x1024_S512x1024_6656_0 1 (by decide) _ _ _ _ 5 _ _ _ _ _ _ _ _ _ _ _ _ _ _ _ _ _
      (show ∀ b, payR (row1 (last.sl.v930 m c)) (row1 (last.sl.v935 m c)) (row1 (last.sl.v984 m c)) (ix3 0 0 b) = yrow m c 6656 b from
        A_mid m c 6656 5 _ _ _ _ _ _ _ _ _ _ 6144 4 _ _ _ _ _ rfl) (B_mid m c 6656 5 _ _ _ _ _ _ _ _ _ _ 7168 6 _ _ _ _ _ rfl)
  have e14 : ∀ (r : Fin 512) (b : Fin 1024), last.sl.dma270 m c fo (ix2 r b) = yrow m c (7168 + r.val) b := by
    clear * - h0 h7
    exact chunk_ld m c 7168 inb_S8192x1024_S512x1024_7168_0 2 (by decide) _ _ _ _ 6 _ _ _ _ _ _ _ _ _ _ _ _ _ _ _ _ _
      (A_mid m c 7168 6 _ _ _ _ _ _ _ _ _ _ 6656 5 _ _ _ _ _ rfl) (B_mid m c 7168 6 _ _ _ _ _ _ _ _ _ _ 7680 7 _ _ _ _ _ rfl)
  have e15 : ∀ (r : Fin 512) (b : Fin 1024), last.sl.dma286 m c fo (ix2 r b) = yrow m c (7680 + r.val) b := by
    clear * - h0 h7
    exact chunk_ld m c 7680 inb_S8192x1024_S512x1024_7680_0 3 (by decide) _ _ _ _ 7 _ _ _ _ _ _ _ _ _ _ _ _ _ _ _ _ _
      (show ∀ b, payR (row1 (last.sl.v1062 m c)) (row1 (last.sl.v1067 m c)) (row1 (last.sl.v1111 m c)) (ix3 0 0 b) = yrow m c 7680 b from
        A_mid m c 7680 7 _ _ _ _ _ _ _ _ _ _ 7168 6 _ _ _ _ _ rfl) (B_edge m c 7 _ _ _ _ (by have h : c.val < 8 := c.isLt; omega) _)
  ihave HY0 := (copy_rows m c 0 _ _ e0 fy) $$ HY0
  ihave HY1 := (copy_rows m c 512 _ _ e1 fy) $$ HY1
  ihave HY2 := (copy_rows m c 1024 _ _ e2 fy) $$ HY2
  ihave HY3 := (copy_rows m c 1536 _ _ e3 fy) $$ HY3
  ihave HY4 := (copy_rows m c 2048 _ _ e4 fy) $$ HY4
  ihave HY5 := (copy_rows m c 2560 _ _ e5 fy) $$ HY5
  ihave HY6 := (copy_rows m c 3072 _ _ e6 fy) $$ HY6
  ihave HY7 := (copy_rows m c 3584 _ _ e7 fy) $$ HY7
  ihave HY8 := (copy_rows m c 4096 _ _ e8 fy) $$ HY8
  ihave HY9 := (copy_rows m c 4608 _ _ e9 fy) $$ HY9
  ihave HY10 := (copy_rows m c 5120 _ _ e10 fy) $$ HY10
  ihave HY11 := (copy_rows m c 5632 _ _ e11 fy) $$ HY11
  ihave HY12 := (copy_rows m c 6144 _ _ e12 fy) $$ HY12
  ihave HY13 := (copy_rows m c 6656 _ _ e13 fy) $$ HY13
  ihave HY14 := (copy_rows m c 7168 _ _ e14 fy) $$ HY14
  ihave HY15 := (copy_rows m c 7680 _ _ e15 fy) $$ HY15
  imod (close_cells m K c (0 + 1) 0 (0 + 1) 0 (duties_later m (snd0Cell c)) (duties_none m c _ (no_copy1 c _ (.inl rfl) h7)) (duties_later m (rcv0Cell c)) (duties_none m c _ (no_copy1 c _ (.inr rfl) h7))) $$ [HatB HatS0 HatS1 HatR0 HatR1] with HZ
  · isplitr; · unfold invs; iexact HJ
    isplitl [HatB]; · iexact HatB
    isplitl [HatS0]; · iexact HatS0
    isplitl [HatS1]; · iexact HatS1
    isplitl [HatR0]; · iexact HatR0
    iexact HatR1
  rw [wp_ret]; imodintro
  iapply Hk
  unfold after xinAll youtAll xslAny oslAny semsAll
  isplitl [HatS0_pay1]; · iexact HatS0_pay1
  isplitl [HrowL]; · iexact HrowL
  isplitl [HX0 HX1 HX2 HX3 HX4 HX5 HX6 HX7 HX8 HX9 HX10 HX11 HX12 HX13 HX14 HX15]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    iexact HX15
  isplitl [HY0 HY1 HY2 HY3 HY4 HY5 HY6 HY7 HY8 HY9 HY10 HY11 HY12 HY13 HY14 HY15]
  · isplitl [HY0]; · iexact HY0
    isplitl [HY1]; · iexact HY1
    isplitl [HY2]; · iexact HY2
    isplitl [HY3]; · iexact HY3
    isplitl [HY4]; · iexact HY4
    isplitl [HY5]; · iexact HY5
    isplitl [HY6]; · iexact HY6
    isplitl [HY7]; · iexact HY7
    isplitl [HY8]; · iexact HY8
    isplitl [HY9]; · iexact HY9
    isplitl [HY10]; · iexact HY10
    isplitl [HY11]; · iexact HY11
    isplitl [HY12]; · iexact HY12
    isplitl [HY13]; · iexact HY13
    isplitl [HY14]; · iexact HY14
    iexact HY15
  isplitl [HB0 HB1 HB2 HB3 HB4 HB5 HB6 HB7]
  · isplitl [HB0]; · iexists _; iexact HB0
    isplitl [HB1]; · iexists _; iexact HB1
    isplitl [HB2]; · iexists _; iexact HB2
    isplitl [HB3]; · iexists _; iexact HB3
    isplitl [HB4]; · iexists _; iexact HB4
    isplitl [HB5]; · iexists _; iexact HB5
    isplitl [HB6]; · iexists _; iexact HB6
    iexists _; iexact HB7
  isplitl [HQ0 HQ1 HQ2 HQ3]
  · isplitl [HQ0]; · iexists _; iexact HQ0
    isplitl [HQ1]; · iexists _; iexact HQ1
    isplitl [HQ2]; · iexists _; iexact HQ2
    iexists _; iexact HQ3
  isplitl [HatR0_pay1]; · iexists _; iexact HatR0_pay1
  isplitl [HkH]; · iexact HkH
  isplitl [Hs0 Hs1 Hs2 Hs3 Hs4 Hs5 Hs6 Hs7 Ht0 Ht1 Ht2 Ht3]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Ht0]; · iexact Ht0
    isplitl [Ht1]; · iexact Ht1
    isplitl [Ht2]; · iexact Ht2
    iexact Ht3
  isplitl [HZ]; · iexact HZ
  iexists _; iexact HO

end Cert.Halo

end
-- ==== Proof.Bufs.lean ====
/-
# Whole buffers and their pieces

The block read, the result and the two rings of slots, each split into the chunks or slots a device's part holds and
put together again.
-/
module

public import proofs.«01_k».proof.Proof.Win
public import Idealize.ShloMosaic.Lib.Ring

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The elements of a chunk and of a slot -/

theorem mem_rows (o n : ℕ) (h : ∀ a : Fin 2, (![o, 0] : Fin 2 → ℕ) a + (![n, 1024] : Fin 2 → ℕ) a ≤ S8192x1024.size a) (j : S8192x1024.Idx) :
    j ∈ (Rect.unit (s := S8192x1024) ![o, 0] ![n, 1024] h).set ↔ o ≤ (j 0).val ∧ (j 0).val < o + n := by
  rw [Rect.mem_set_unit]
  have h1 : (j 1).val < 1024 := (j 1).isLt
  exact ⟨fun h => h 0, fun h a => by
    match a with
    | ⟨0, _⟩ => exact h
    | ⟨1, _⟩ => exact ⟨Nat.zero_le _, by simpa using h1⟩⟩

theorem mem_slab (n k : ℕ) (h : ∀ a : Fin 3, (![k, 0, 0] : Fin 3 → ℕ) a + S1x512x1024.size a ≤ (⟨3, ![n, 512, 1024]⟩ : Shape).size a)
    (j : (⟨3, ![n, 512, 1024]⟩ : Shape).Idx) :
    j ∈ (Rect.unit (s := (⟨3, ![n, 512, 1024]⟩ : Shape)) ![k, 0, 0] S1x512x1024.size h).set ↔ (j 0).val = k := by
  rw [Rect.mem_set_unit]
  have h1 : (j 1).val < 512 := (j 1).isLt
  have h2 : (j 2).val < 1024 := (j 2).isLt
  constructor
  · intro h
    have h0 : k ≤ (j 0).val ∧ (j 0).val < k + 1 := h 0
    omega
  · intro h a
    match a with
    | ⟨0, _⟩ => exact ⟨le_of_eq h.symm, by show (j 0).val < k + 1; omega⟩
    | ⟨1, _⟩ => exact ⟨Nat.zero_le _, by simpa using h1⟩
    | ⟨2, _⟩ => exact ⟨Nat.zero_le _, by simpa using h2⟩

theorem in_row (i : Fin 16) : ∀ a : Fin 2, (![512 * i.val, 0] : Fin 2 → ℕ) a + S512x1024.size a ≤ S8192x1024.size a := by
  revert i; decide
theorem in_xslot (k : Fin 8) : ∀ a : Fin 3, (![k.val, 0, 0] : Fin 3 → ℕ) a + S1x512x1024.size a ≤ S8x512x1024.size a := by
  revert k; decide
theorem in_oslot (k : Fin 4) : ∀ a : Fin 3, (![k.val, 0, 0] : Fin 3 → ℕ) a + S1x512x1024.size a ≤ S4x512x1024.size a := by
  revert k; decide

/-- The sixteen chunks of a block, the eight slots of the ring read into, the four of the ring written from. -/
abbrev rowSet (i : Fin 16) : Finset S8192x1024.Idx := (Rect.unit (s := S8192x1024) ![512 * i.val, 0] S512x1024.size (in_row i)).set
abbrev xslSet (k : Fin 8) : Finset S8x512x1024.Idx := (Rect.unit (s := S8x512x1024) ![k.val, 0, 0] S1x512x1024.size (in_xslot k)).set
abbrev oslSet (k : Fin 4) : Finset S4x512x1024.Idx := (Rect.unit (s := S4x512x1024) ![k.val, 0, 0] S1x512x1024.size (in_oslot k)).set

theorem row_disj (i i' : Fin 16) (h : i ≠ i') : Disjoint (rowSet i) (rowSet i') := by
  refine Finset.disjoint_left.mpr fun j h1 h2 => h (Fin.ext ?_)
  have h1 := (mem_rows _ 512 (in_row i) j).mp h1
  have h2 := (mem_rows _ 512 (in_row i') j).mp h2
  omega
theorem row_cover : Finset.univ.biUnion rowSet = Finset.univ := by
  refine Finset.eq_univ_iff_forall.mpr fun j => Finset.mem_biUnion.mpr ?_
  have hj : (j 0).val < 8192 := (j 0).isLt
  refine ⟨⟨(j 0).val / 512, by omega⟩, Finset.mem_univ _, (mem_rows _ 512 (in_row _) j).mpr ?_⟩
  dsimp only
  omega
theorem xsl_disj (i i' : Fin 8) (h : i ≠ i') : Disjoint (xslSet i) (xslSet i') :=
  Finset.disjoint_left.mpr fun j h1 h2 => h (Fin.ext (((mem_slab 8 _ (in_xslot i) j).mp h1).symm.trans ((mem_slab 8 _ (in_xslot i') j).mp h2)))
theorem xsl_cover : Finset.univ.biUnion xslSet = Finset.univ :=
  Finset.eq_univ_iff_forall.mpr fun j => Finset.mem_biUnion.mpr
    ⟨⟨(j 0).val, (j 0).isLt⟩, Finset.mem_univ _, (mem_slab 8 _ (in_xslot _) j).mpr rfl⟩
theorem osl_disj (i i' : Fin 4) (h : i ≠ i') : Disjoint (oslSet i) (oslSet i') :=
  Finset.disjoint_left.mpr fun j h1 h2 => h (Fin.ext (((mem_slab 4 _ (in_oslot i) j).mp h1).symm.trans ((mem_slab 4 _ (in_oslot i') j).mp h2)))
theorem osl_cover : Finset.univ.biUnion oslSet = Finset.univ :=
  Finset.eq_univ_iff_forall.mpr fun j => Finset.mem_biUnion.mpr
    ⟨⟨(j 0).val, (j 0).isLt⟩, Finset.mem_univ _, (mem_slab 4 _ (in_oslot _) j).mpr rfl⟩

/-! ## The sets of the windows -/

theorem xin_set (o : ℕ) (h) : (xin o h).view.set = (Rect.unit (s := S8192x1024) ![o, 0] S512x1024.size h).set := View.set_slice_whole _ _
theorem yout_set (o : ℕ) (h) : (yout o h).view.set = (Rect.unit (s := S8192x1024) ![o, 0] S512x1024.size h).set := View.set_slice_whole _ _
theorem xsl_set (k : ℕ) (h) : (xsl k h).view.set = (Rect.unit (s := S8x512x1024) ![k, 0, 0] S1x512x1024.size h).set :=
  (View.set_reshape _ _).trans (View.set_slice_whole _ _)
theorem osl_set (k : ℕ) (h) : (osl k h).view.set = (Rect.unit (s := S4x512x1024) ![k, 0, 0] S1x512x1024.size h).set :=
  (View.set_reshape _ _).trans (View.set_slice_whole _ _)

/-! ## Splitting and joining -/

omit [FloatOps F] in
theorem x_chunks (c : Dev nD) : (((c : Thread nD τ).loc main_arg0) ↦{qL} XA m c : sProp 𝕄) = xinAll m c := by
  have h := Ring.pointsTo_blocks (ℓ := (c : Thread nD τ).loc main_arg0) rowSet row_disj row_cover (q := qL)
    (Ix := Unit) (Name := ℕ) (U := UU) (Lvl := ℕ) (XA m c)
  rw [h, bigSep_congr (s := Finset.univ) (Ψ := fun i : Fin 16 => xinP m c (512 * i.val) (in_row i)) (fun i _ => by unfold xinP; rw [xin_set]),
    bigSep_univ_eq_bigSepL [0, 1, 2, 3, 4, 5, 6, 7, 8, 9, 10, 11, 12, 13, 14, 15] (by decide) (by decide)]
  unfold xinAll
  rfl
omit [FloatOps F] in
theorem y_chunks (c : Dev nD) (g : Buf (Elt F) ((c : Thread nD τ).loc main_v1)) :
    (((c : Thread nD τ).loc main_v1) ↦{fullShare} g : sProp 𝕄) = youtAll c g := by
  have h := Ring.pointsTo_blocks (ℓ := (c : Thread nD τ).loc main_v1) rowSet row_disj row_cover (q := fullShare)
    (Ix := Unit) (Name := ℕ) (U := UU) (Lvl := ℕ) g
  rw [h, bigSep_congr (s := Finset.univ) (Ψ := fun i : Fin 16 => youtP c (512 * i.val) (in_row i) g) (fun i _ => by unfold youtP; rw [yout_set]),
    bigSep_univ_eq_bigSepL [0, 1, 2, 3, 4, 5, 6, 7, 8, 9, 10, 11, 12, 13, 14, 15] (by decide) (by decide)]
  unfold youtAll
  rfl
omit [FloatOps F] in
theorem xsl_slots (c : Dev nD) (f : Buf (Elt F) ((c : Thread nD τ).loc cc0_scratch0)) :
    (((c : Thread nD τ).loc cc0_scratch0) ↦{fullShare} f : sProp 𝕄) = xslAll c f := by
  have h := Ring.pointsTo_blocks (ℓ := (c : Thread nD τ).loc cc0_scratch0) xslSet xsl_disj xsl_cover (q := fullShare)
    (Ix := Unit) (Name := ℕ) (U := UU) (Lvl := ℕ) f
  rw [h, bigSep_congr (s := Finset.univ) (Ψ := fun i : Fin 8 => xslP c i.val (in_xslot i) f) (fun i _ => by unfold xslP; rw [xsl_set]),
    bigSep_univ_eq_bigSepL [0, 1, 2, 3, 4, 5, 6, 7] (by decide) (by decide)]
  unfold xslAll
  rfl
omit [FloatOps F] in
theorem osl_slots (c : Dev nD) (f : Buf (Elt F) ((c : Thread nD τ).loc cc0_scratch1)) :
    (((c : Thread nD τ).loc cc0_scratch1) ↦{fullShare} f : sProp 𝕄) = oslAll c f := by
  have h := Ring.pointsTo_blocks (ℓ := (c : Thread nD τ).loc cc0_scratch1) oslSet osl_disj osl_cover (q := fullShare)
    (Ix := Unit) (Name := ℕ) (U := UU) (Lvl := ℕ) f
  rw [h, bigSep_congr (s := Finset.univ) (Ψ := fun i : Fin 4 => oslP c i.val (in_oslot i) f) (fun i _ => by unfold oslP; rw [osl_set]),
    bigSep_univ_eq_bigSepL [0, 1, 2, 3] (by decide) (by decide)]
  unfold oslAll
  rfl

theorem xsl_join (c : Dev nD) : (xslAny c : sProp 𝕄) ⊢ iprop(∃ f : Buf (Elt F) ((c : Thread nD τ).loc cc0_scratch0), ((c : Thread nD τ).loc cc0_scratch0) ↦{fullShare} f) := by
  have h := Ring.pointsTo_blocks_join_exists (ℓ := (c : Thread nD τ).loc cc0_scratch0) xslSet xsl_disj xsl_cover (q := fullShare)
    (Val := Elt F) (Ix := Unit) (Name := ℕ) (U := UU) (Lvl := ℕ) (fun _ => FloatOps.ofBits .bf16 0)
  rw [bigSep_congr (s := Finset.univ) (Ψ := fun i : Fin 8 => iprop(∃ f, xslP c i.val (in_xslot i) f)) (fun i _ => by unfold xslP; rw [xsl_set]),
    bigSep_univ_eq_bigSepL [0, 1, 2, 3, 4, 5, 6, 7] (by decide) (by decide)] at h
  unfold xslAny
  exact h
theorem osl_join (c : Dev nD) : (oslAny c : sProp 𝕄) ⊢ iprop(∃ f : Buf (Elt F) ((c : Thread nD τ).loc cc0_scratch1), ((c : Thread nD τ).loc cc0_scratch1) ↦{fullShare} f) := by
  have h := Ring.pointsTo_blocks_join_exists (ℓ := (c : Thread nD τ).loc cc0_scratch1) oslSet osl_disj osl_cover (q := fullShare)
    (Val := Elt F) (Ix := Unit) (Name := ℕ) (U := UU) (Lvl := ℕ) (fun _ => FloatOps.ofBits .bf16 0)
  rw [bigSep_congr (s := Finset.univ) (Ψ := fun i : Fin 4 => iprop(∃ f, oslP c i.val (in_oslot i) f)) (fun i _ => by unfold oslP; rw [osl_set]),
    bigSep_univ_eq_bigSepL [0, 1, 2, 3] (by decide) (by decide)] at h
  unfold oslAny
  exact h

/-! ## The buffers the neighbours write; the block's first and last two rows -/

omit [FloatOps F] in
theorem lo_whole (c : Dev nD) (f : Buf (Elt F) ((c : Thread nD τ).loc cc0_scratch2)) :
    (((c : Thread nD τ).loc cc0_scratch2) ↦{fullShare} f : sProp 𝕄) = loP c f := by
  unfold loP; rw [View.set_whole]
omit [FloatOps F] in
theorem hi_whole (c : Dev nD) (f : Buf (Elt F) ((c : Thread nD τ).loc cc0_scratch3)) :
    (((c : Thread nD τ).loc cc0_scratch3) ↦{fullShare} f : sProp 𝕄) = hiP c f := by
  unfold hiP; rw [View.set_whole]

theorem rowF_set : (rowF : Memref sig .tc .hbm S2x1024 .bf16).view.set
    = (Rect.unit (s := S8192x1024) ![0, 0] S2x1024.size inb_S8192x1024_S2x1024_0_0).set := View.set_slice_whole _ _
theorem rowL_set : (rowL : Memref sig .tc .hbm S2x1024 .bf16).view.set
    = (Rect.unit (s := S8192x1024) ![8190, 0] S2x1024.size inb_S8192x1024_S2x1024_8190_0).set := View.set_slice_whole _ _
abbrev firstSet : Finset S8192x1024.Idx := (Rect.unit (s := S8192x1024) ![0, 0] S2x1024.size inb_S8192x1024_S2x1024_0_0).set
abbrev lastSet : Finset S8192x1024.Idx := (Rect.unit (s := S8192x1024) ![8190, 0] S2x1024.size inb_S8192x1024_S2x1024_8190_0).set

theorem last_sub : lastSet ⊆ Finset.univ \ firstSet := by
  intro j hj
  refine Finset.mem_sdiff.mpr ⟨Finset.mem_univ _, fun hf => ?_⟩
  have h1 := (mem_rows 8190 2 inb_S8192x1024_S2x1024_8190_0 j).mp hj
  have h2 := (mem_rows 0 2 inb_S8192x1024_S2x1024_0_0 j).mp hf
  omega

/-- What a device's part leaves alone: the right half share of all rows but the first and last two. -/
def xRest (c : Dev nD) : sProp 𝕄 := ((c : Thread nD τ).loc main_arg0) ↦[(Finset.univ \ firstSet) \ lastSet]{qR} XA m c

omit [FloatOps F] in
theorem x_split (c : Dev nD) : (((c : Thread nD τ).loc main_arg0) ↦{fullShare} XA m c : sProp 𝕄)
    ⊢ iprop(xinAll m c ∗ rowFP m c ∗ rowLP m c ∗ xRest m c) := by
  unfold rowFP rowLP xRest
  rw [rowF_set, rowL_set]
  iintro H
  ihave H := (pointsTo_share (PosShare.mem_left_op_right fullShare)).1 $$ H
  icases H with ⟨HL, HR⟩
  isplitl [HL]; · iapply (Entails.of_eq (x_chunks m c)); iexact HL
  ihave H := (pointsTo_split_subset (Finset.subset_univ firstSet)).1 $$ HR
  icases H with ⟨HF, HR⟩
  ihave H := (pointsTo_split_subset last_sub).1 $$ HR
  icases H with ⟨HT, HR⟩
  isplitl [HF]; · iexact HF
  isplitl [HT]; · iexact HT
  iexact HR
omit [FloatOps F] in
theorem x_join (c : Dev nD) : iprop(xinAll m c ∗ rowFP m c ∗ rowLP m c ∗ xRest m c)
    ⊢ (((c : Thread nD τ).loc main_arg0) ↦{fullShare} XA m c : sProp 𝕄) := by
  unfold rowFP rowLP xRest
  rw [rowF_set, rowL_set]
  iintro ⟨HL, HF, HT, HR⟩
  iapply (pointsTo_share (PosShare.mem_left_op_right fullShare)).2
  isplitl [HL]; · iapply (Entails.of_eq (x_chunks m c).symm); iexact HL
  iapply (pointsTo_split_subset (Finset.subset_univ firstSet)).2
  isplitl [HF]; · iexact HF
  iapply (pointsTo_split_subset last_sub).2
  isplitl [HT]; · iexact HT
  iexact HR

end Cert.Halo

end
-- ==== Proof.Deal.lean ====
/-
# The launch: what every device is dealt

The ghost state of the exchange's cells made at the launch element, the cells' invariants opened under names for all
devices at once, and the tokens of a cell's duties moved to the devices that pay them.
-/
module

public import proofs.«01_k».proof.Proof.Bufs
public import Idealize.ShloMosaic.Lib.Pipeline.Launch
public import Idealize.ShloMosaic.Lib.Pipeline.Kit

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The sixteen of a device: of the copies in, of the copies out, of the copies sent, of the copies received. -/
abbrev kernSem : Fin 16 → SemLoc sig := ![
  .dma (isem 0 inb_S8_S1_0), .dma (isem 1 inb_S8_S1_1), .dma (isem 2 inb_S8_S1_2), .dma (isem 3 inb_S8_S1_3),
  .dma (isem 4 inb_S8_S1_4), .dma (isem 5 inb_S8_S1_5), .dma (isem 6 inb_S8_S1_6), .dma (isem 7 inb_S8_S1_7),
  .dma (osem 0 inb_S4_S1_0), .dma (osem 1 inb_S4_S1_1), .dma (osem 2 inb_S4_S1_2), .dma (osem 3 inb_S4_S1_3),
  .dma snd0.sem, .dma snd1.sem, .dma rcv0.sem, .dma rcv1.sem]

theorem ownSemFacts : Pipeline.OwnSemFacts cfg0.spec kernSem := by decide

abbrev ownAt (c : Dev nD) : sProp 𝕄 := Pipeline.ownSems0 (Ix := Unit) (Name := ℕ) (U := UU) (Lvl := ℕ) (Val := Elt F) (τ := τ) kernSem c

omit [FloatOps F] in
theorem own_eq (c : Dev nD) : (ownAt c : sProp 𝕄) = iprop(semVal ((c : Thread nD τ), .dma (isem 0 inb_S8_S1_0)) 0 ∗ semVal ((c : Thread nD τ), .dma (isem 1 inb_S8_S1_1)) 0
      ∗ semVal ((c : Thread nD τ), .dma (isem 2 inb_S8_S1_2)) 0 ∗ semVal ((c : Thread nD τ), .dma (isem 3 inb_S8_S1_3)) 0
      ∗ semVal ((c : Thread nD τ), .dma (isem 4 inb_S8_S1_4)) 0 ∗ semVal ((c : Thread nD τ), .dma (isem 5 inb_S8_S1_5)) 0
      ∗ semVal ((c : Thread nD τ), .dma (isem 6 inb_S8_S1_6)) 0 ∗ semVal ((c : Thread nD τ), .dma (isem 7 inb_S8_S1_7)) 0
      ∗ semVal ((c : Thread nD τ), .dma (osem 0 inb_S4_S1_0)) 0 ∗ semVal ((c : Thread nD τ), .dma (osem 1 inb_S4_S1_1)) 0
      ∗ semVal ((c : Thread nD τ), .dma (osem 2 inb_S4_S1_2)) 0 ∗ semVal ((c : Thread nD τ), .dma (osem 3 inb_S4_S1_3)) 0
      ∗ semVal ((c : Thread nD τ), .dma snd0.sem) 0 ∗ semVal ((c : Thread nD τ), .dma snd1.sem) 0
      ∗ semVal ((c : Thread nD τ), .dma rcv0.sem) 0 ∗ semVal ((c : Thread nD τ), .dma rcv1.sem) 0) := by
  unfold ownAt
  rw [Pipeline.ownSems0_eq_of_list c kernSem [0, 1, 2, 3, 4, 5, 6, 7, 8, 9, 10, 11, 12, 13, 14, 15] (by decide) (by decide)]
  rfl

omit [FloatOps F] in
theorem own_split (c : Dev nD) : (ownAt c : sProp 𝕄)
    ⊢ iprop(semsAll c ∗ semVal (snd0Cell c) 0 ∗ semVal (snd1Cell c) 0 ∗ semVal (rcv0Cell c) 0 ∗ semVal (rcv1Cell c) 0) := by
  rw [own_eq]
  unfold semsAll
  iintro ⟨H0, H1, H2, H3, H4, H5, H6, H7, H8, H9, H10, H11, H12, H13, H14, H15⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  isplitl [H13]; · iexact H13
  isplitl [H14]; · iexact H14
  iexact H15

omit [FloatOps F] in
theorem own_join (c : Dev nD) :
    iprop(semsAll c ∗ semVal (snd0Cell c) 0 ∗ semVal (snd1Cell c) 0 ∗ semVal (rcv0Cell c) 0 ∗ semVal (rcv1Cell c) 0) ⊢ (ownAt c : sProp 𝕄) := by
  rw [own_eq]
  unfold semsAll
  iintro ⟨⟨H0, H1, H2, H3, H4, H5, H6, H7, H8, H9, H10, H11⟩, H12, H13, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
/-- The barrier semaphore is the one semaphore of the launch itself. -/
theorem bar_eq (c : Dev nD) : (unscopedSems0 c : sProp 𝕄) = semVal (barCell c) 0 := by
  unfold unscopedSems0; rw [bigSep_eq_bigSepL_of_eq [SemLoc.reg barS] (by decide) (by decide)]; rfl

/-! ## The exchange's cells and tokens -/

theorem kcell_inj : Function.Injective (kcell : Dev nD × Fin 5 → GSem nD τ sig) := fun a b h =>
  Prod.ext (congrArg (fun g : GSem nD τ sig => g.1.1) h) (csem_inj (congrArg Prod.snd h))

def haloCells : Finset (GSem nD τ sig) := Finset.univ.map ⟨kcell, kcell_inj⟩

/-- A device's own cells' duties: both of its barrier, the one of each copy. -/
abbrev tokSem : Fin 6 → SemLoc sig × Bool := fun
  | 0 => (.reg barS, false) | 1 => (.reg barS, true) | 2 => (.dma snd0.sem, false) | 3 => (.dma snd1.sem, false)
  | 4 => (.dma rcv0.sem, false) | 5 => (.dma rcv1.sem, false)
theorem tokSem_inj : Function.Injective tokSem := by decide
abbrev tokAt (cj : Dev nD × Fin 6) : GSem nD τ sig × ℕ × Bool := (((cj.1 : Thread nD τ), (tokSem cj.2).1), 0, (tokSem cj.2).2)
theorem tokAt_inj : Function.Injective (tokAt : Dev nD × Fin 6 → GSem nD τ sig × ℕ × Bool) := fun a b h =>
  Prod.ext (congrArg (fun x : GSem nD τ sig × ℕ × Bool => x.1.1.1) h)
    (tokSem_inj (Prod.ext (congrArg (fun x : GSem nD τ sig × ℕ × Bool => x.1.2) h) (congrArg (fun x : GSem nD τ sig × ℕ × Bool => x.2.2) h)))

def haloToks : Finset (GSem nD τ sig × ℕ × Bool) := Finset.univ.map ⟨tokAt, tokAt_inj⟩

def toks (c : Dev nD) : sProp 𝕄 :=
  iprop(dutyTok ER (barCell c) 0 false ∗ dutyTok ER (barCell c) 0 true ∗ dutyTok ER (snd0Cell c) 0 false ∗ dutyTok ER (snd1Cell c) 0 false
    ∗ dutyTok ER (rcv0Cell c) 0 false ∗ dutyTok ER (rcv1Cell c) 0 false)

/-- What the launch element deals device `c`. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the step over all devices makes of it. -/
def G' (c : Dev nD) : sProp 𝕄 := iprop((∃ K, ghost m K c) ∗ semsAll c)

omit [FloatOps F] in
theorem sep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem sep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [sep_fin6]; rfl
  iintro HX
  imod (Rounds.fund ER (sched m) haloCells haloToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- One device's cells opened under names. -/
theorem open_cells (c : Dev nD) : iprop(ownAt c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ semsAll c) := by
  unfold G
  rw [bar_eq]
  iintro ⟨Hos, HB, Hst, Hat, Htok⟩
  ihave Hos := (own_split c) $$ Hos
  icases Hos with ⟨Hsems, HS0, HS1, HR0, HR1⟩
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _))
    $$ [HB HS0 HS1 HR0 HR1 Hst] with Hinv
  · isplitr [Hst]
    · rw [sep_fin5 (F := F)]
      isplitl [HB]; · iexact HB
      isplitl [HS0]; · iexact HS0
      isplitl [HS1]; · iexact HS1
      isplitl [HR0]; · iexact HR0
      iexact HR1
    iexact Hst
  imodintro
  isplitl [Hinv]; · iexact Hinv
  isplitl [Hat]; · iexact Hat
  isplitl [Htok]; · iexact Htok
  iexact Hsems

/-! ## Dealing them out -/

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

omit [FloatOps F] in
theorem inv_of (K : Dev nD × Fin 5 → ℕ) (ck : Dev nD × Fin 5) : (records m K : sProp 𝕄) ⊢ cellInv ER (sched m) (K ck) (kcell ck) := by
  unfold records
  iintro ⟨H, -⟩
  iapply (show (bigSep Finset.univ fun ck : Dev nD × Fin 5 => (cellInv ER (sched m) (K ck) (kcell ck) : sProp 𝕄)) ⊢ cellInv ER (sched m) (K ck) (kcell ck) from bigSep_elim (Finset.mem_univ ck))
  iexact H
omit [FloatOps F] in
theorem reached_of (K : Dev nD × Fin 5 → ℕ) (ck : Dev nD × Fin 5) : (records m K : sProp 𝕄) ⊢ reached ER (kcell ck) 0 := by
  unfold records
  iintro ⟨-, H⟩
  iapply (show (bigSep Finset.univ fun ck : Dev nD × Fin 5 => (reached ER (kcell ck) 0 : sProp 𝕄)) ⊢ reached ER (kcell ck) 0 from bigSep_elim (Finset.mem_univ ck))
  iexact H

/-- The tokens of the duties device `c` pays. -/
def payToks (c : Dev nD) : sProp 𝕄 :=
  iprop(dutyTok ER (barCell (nxt c)) 0 false ∗ dutyTok ER (barCell (prv c)) 0 true
    ∗ dutyTok ER (rcv0Cell (nxt c)) 0 false ∗ dutyTok ER (rcv1Cell (prv c)) 0 false
    ∗ dutyTok ER (snd0Cell c) 0 false ∗ dutyTok ER (snd1Cell c) 0 false)
/-- What device `c` alone holds. -/
def alone (c : Dev nD) : sProp 𝕄 :=
  iprop((atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)
    ∗ payToks c ∗ semsAll c)

theorem ghost_of (K : Dev nD × Fin 5 → ℕ) (c : Dev nD) : iprop(records m K ∗ alone c) ⊢ G' m c := by
  unfold alone payToks G' ghost invs
  iintro ⟨#HR, Hat, Htk, Hs⟩
  isplitr [Hs]
  · iexists K
    isplitr
    · isplitr; · iapply (inv_of m K (c, 0)); iexact HR
      isplitr; · iapply (inv_of m K (c, 1)); iexact HR
      isplitr; · iapply (inv_of m K (c, 2)); iexact HR
      isplitr; · iapply (inv_of m K (c, 3)); iexact HR
      isplitr; · iapply (inv_of m K (c, 4)); iexact HR
      isplitr; · iapply (inv_of m K (nxt c, 0)); iexact HR
      isplitr; · iapply (inv_of m K (prv c, 0)); iexact HR
      isplitr; · iapply (inv_of m K (nxt c, 3)); iexact HR
      iapply (inv_of m K (prv c, 4)); iexact HR
    isplitl [Hat]; · iexact Hat
    isplitr
    · isplitr; · iapply (reached_of m K (nxt c, 0)); iexact HR
      isplitr; · iapply (reached_of m K (prv c, 0)); iexact HR
      isplitr; · iapply (reached_of m K (nxt c, 3)); iexact HR
      isplitr; · iapply (reached_of m K (prv c, 4)); iexact HR
      isplitr; · iapply (reached_of m K (c, 1)); iexact HR
      iapply (reached_of m K (c, 2)); iexact HR
    iexact Htk
  iexact Hs

omit [FloatOps F] in
/-- The tokens around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (rcv0Cell c) 0 false : sProp 𝕄)),
    bigSep_univ_equiv ring.symm (fun c : Dev nD => (dutyTok ER (rcv1Cell c) 0 false : sProp 𝕄))]
  iintro ⟨H1, H2, H3, H4, H5, H6⟩
  isplitl [H1]; · iexact H1
  isplitl [H2]; · iexact H2
  isplitl [H5]; · iexact H5
  isplitl [H6]; · iexact H6
  isplitl [H3]; · iexact H3
  iexact H4

omit [FloatOps F] in
theorem deal_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ semsAll c) : sProp 𝕄)
      ⊢ bigSep Finset.univ (G' m) := by
  rw [bigSep_sep', bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok, Hs⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (deal_with (R := records m K) fun c _ => ghost_of m K c)
  isplitr
  · unfold records; isplitl; · iexact HI
    iexact HR
  · unfold alone
    rw [bigSep_sep']
    isplitl [Hat]
    · iapply (Entails.of_eq (bigSep_congr (s := Finset.univ) fun (c : Dev nD) _ => sep_fin5 (fun k : Fin 5 => (atPos ER (kcell (c, k)) 0 ∅ 0 : sProp 𝕄))))
      iexact Hat
    rw [bigSep_sep']
    isplitl [Htk]; · iexact Htk
    iexact Hs

/-- The step over all devices at once. -/
theorem glob : (bigSep Finset.univ fun c => iprop(ownAt c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩

/-- What device `d` owes device `c`'s cells. -/
theorem owed_bar (d c : Dev nD) : O₀ d (barCell c) () = (if d = nxt c then 1 else 0) + (if d = prv c then 1 else 0) := by
  have h2 : O₂ d (barCell c) () = 0 := by
    by_contra h'
    rcases O₂_pos (Nat.pos_of_ne_zero h') with h | h <;> exact ne_bar _ (congrArg Prod.snd h).symm
  unfold O₀
  rw [Pi.add_apply, Finsupp.add_apply, Pi.add_apply, Finsupp.add_apply, tallyAt_apply, tallyAt_apply, h2, Nat.zero_add]
  congr 1
  · exact if_congr ⟨fun h => by rw [bar_eq_iff.mp h.1, nxt_prv], fun h => ⟨by rw [h, prv_nxt], rfl⟩⟩ rfl rfl
  · exact if_congr ⟨fun h => by rw [bar_eq_iff.mp h.1, prv_nxt], fun h => ⟨by rw [h, nxt_prv], rfl⟩⟩ rfl rfl

theorem bar_ne_rcv (a c : Dev nD) (s : DmaSem sig) : ¬ (((c : Thread nD τ), SemLoc.dma s) = barCell a ∧ () = ()) :=
  fun h => ne_bar _ (congrArg Prod.snd h.1)

theorem owed_rcv0 (d c : Dev nD) (hc : 0 < c.val) : O₀ d (rcv0Cell c) () = if d = prv c then N else 0 := by
  unfold O₀ O₂
  rw [Pi.add_apply, Finsupp.add_apply, Pi.add_apply, Finsupp.add_apply, Pi.add_apply, Finsupp.add_apply,
    tallyAt_apply (g := barCell _), tallyAt_apply (g := barCell _), if_neg (bar_ne_rcv _ _ _), if_neg (bar_ne_rcv _ _ _), Nat.add_zero]
  have h1 : (if 0 < d.val then tallyAt (rcv1Cell (prv d)) () N else 0 : CellTallies nD τ sig Unit) (rcv0Cell c) () = 0 := by
    split
    · rw [tallyAt_apply, if_neg (fun h => r0_r1' (congrArg Prod.snd h.1))]
    · rfl
  rw [h1, Nat.add_zero]
  by_cases h : d = prv c
  · subst h
    rw [if_pos ((prv_lt c).mpr hc), tallyAt_apply, nxt_prv, if_pos ⟨rfl, rfl⟩, if_pos rfl]
  · rw [if_neg h]
    split
    · rw [tallyAt_apply, if_neg]
      rintro ⟨h', -⟩
      have h' : c = nxt d := congrArg (fun g : GSem nD τ sig => g.1.1) h'
      exact h (by rw [h', prv_nxt])
    · rfl

theorem owed_rcv1 (d c : Dev nD) (hc : c.val < 7) : O₀ d (rcv1Cell c) () = if d = nxt c then N else 0 := by
  unfold O₀ O₂
  rw [Pi.add_apply, Finsupp.add_apply, Pi.add_apply, Finsupp.add_apply, Pi.add_apply, Finsupp.add_apply,
    tallyAt_apply (g := barCell _), tallyAt_apply (g := barCell _), if_neg (bar_ne_rcv _ _ _), if_neg (bar_ne_rcv _ _ _), Nat.add_zero]
  have h1 : (if d.val < 7 then tallyAt (rcv0Cell (nxt d)) () N else 0 : CellTallies nD τ sig Unit) (rcv1Cell c) () = 0 := by
    split
    · rw [tallyAt_apply, if_neg (fun h => r0_r1 (congrArg Prod.snd h.1))]
    · rfl
  rw [h1, Nat.zero_add]
  by_cases h : d = nxt c
  · subst h
    rw [if_pos ((nxt_pos c).mpr hc), tallyAt_apply, prv_nxt, if_pos ⟨rfl, rfl⟩, if_pos rfl]
  · rw [if_neg h]
    split
    · rw [tallyAt_apply, if_neg]
      rintro ⟨h', -⟩
      have h' : c = prv d := congrArg (fun g : GSem nD τ sig => g.1.1) h'
      exact h (by rw [h', nxt_prv])
    · rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_rcv0 (c : Dev nD) (hc : 0 < c.val) :
    tallyOn (rcv0Cell c) (launchCredit (Pipeline.owing O₀) 0 (rcv0Cell c)) = (tallyAt (rcv0Cell c) () N : CellTallies nD τ sig Unit) := by
  unfold tallyAt; refine congrArg _ (Finsupp.ext fun u => ?_); cases u
  rw [Pipeline.launchCredit_owing, Finsupp.single_eq_same, Finset.sum_congr rfl fun d _ => owed_rcv0 d c hc, Finset.sum_ite_eq' Finset.univ (prv c) fun _ => N,
    if_pos (Finset.mem_univ _)]
theorem launch_rcv1 (c : Dev nD) (hc : c.val < 7) :
    tallyOn (rcv1Cell c) (launchCredit (Pipeline.owing O₀) 0 (rcv1Cell c)) = (tallyAt (rcv1Cell c) () N : CellTallies nD τ sig Unit) := by
  unfold tallyAt; refine congrArg _ (Finsupp.ext fun u => ?_); cases u
  rw [Pipeline.launchCredit_owing, Finsupp.single_eq_same, Finset.sum_congr rfl fun d _ => owed_rcv1 d c hc, Finset.sum_ite_eq' Finset.univ (nxt c) fun _ => N,
    if_pos (Finset.mem_univ _)]

omit [FloatOps F] in
theorem creds (c : Dev nD) : (Pipeline.launchCred O₀ c : sProp 𝕄) ⊢ iprop(cred (tallyAt (barCell c) () 2) ∗ rcvCreds c) := by
  unfold Pipeline.launchCred rcvCreds
  rw [bigSep_univ_at _ (SemLoc.reg barS), launch_bar,
    bigSep_erase (s := Finset.univ.erase (SemLoc.reg barS)) (i := SemLoc.dma rcv0.sem) (Finset.mem_erase.mpr ⟨ne_bar _, Finset.mem_univ _⟩),
    bigSep_erase (s := (Finset.univ.erase (SemLoc.reg barS)).erase (SemLoc.dma rcv0.sem)) (i := SemLoc.dma rcv1.sem)
      (Finset.mem_erase.mpr ⟨r0_r1, Finset.mem_erase.mpr ⟨ne_bar _, Finset.mem_univ _⟩⟩)]
  show iprop(_ ∗ _ ∗ _ ∗ _) ⊢ iprop(_ ∗ _ ∗ _)
  iintro ⟨HB, H0, H1, -⟩
  isplitl [HB]; · iexact HB
  isplitl [H0]
  · by_cases h : 0 < c.val
    · rw [if_pos h, ← launch_rcv0 c h]; iexact H0
    · rw [if_neg h]; iempintro
  · by_cases h : c.val < 7
    · rw [if_pos h, ← launch_rcv1 c h]; iexact H1
    · rw [if_neg h]; iempintro

end Cert.Halo

end
-- ==== Proof.Launch.lean ====
/-
# The launch: the run of the eight devices

Every device's part run from what it is dealt, at its place along the row of devices; and what every fair execution
of them together ends with.
-/
module

public import proofs.«01_k».proof.Proof.Body
public import proofs.«01_k».proof.Proof.First
public import proofs.«01_k».proof.Proof.Last
public import proofs.«01_k».proof.Proof.Deal
public import Idealize.ShloMosaic.Lib.Pipeline.CollectiveSegs

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device's part starts from and ends with -/

/-- The scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

abbrev xAt (c : Dev nD) : sProp 𝕄 := ((c : Thread nD τ).loc main_arg0) ↦{fullShare} XA m c
abbrev yAt (c : Dev nD) (g : Buf (Elt F) ((c : Thread nD τ).loc main_v1)) : sProp 𝕄 := ((c : Thread nD τ).loc main_v1) ↦{fullShare} g

def start (c : Dev nD) : sProp 𝕄 :=
  iprop((∃ K, ghost m K c) ∗ cred (tallyAt (barCell c) () 2) ∗ rcvCreds c ∗ levAts L lv ∗ semsAll c
    ∗ xAt m c ∗ yAt c (m ((c : Thread nD τ).loc main_v1)))
def Φ₀ (c : Dev nD) : sProp 𝕄 := iprop(start m c ∗ scratch c)
def Φ₁ (c : Dev nD) : sProp 𝕄 := iprop(xAt m c ∗ yAt c (Yv m c) ∗ semsAll c ∗ zeros c ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A device's part as the launch runs it. -/
abbrev part : Prog (TpuEff nD τ sig (Elt F) Λ₀ .tc) PUnit :=
  cc0_body xM (Memref.isWhole_whole _) yM (Memref.isWhole_whole _) xbM (Memref.isWhole_whole _) obM (Memref.isWhole_whole _)
    loM (Memref.isWhole_whole _) hiM (Memref.isWhole_whole _) cc0_scratch4 cc0_scratch5 cc0_scratch6 cc0_scratch7

/-- The part at each of the three kinds of place. -/
theorem runs (K : Dev nD × Fin 5 → ℕ) (c : Dev nD) (W : Waits sig Unit) (fy : Buf (Elt F) ((c : Thread nD τ).loc main_v1))
    (fx : Buf (Elt F) ((c : Thread nD τ).loc cc0_scratch0)) (fo : Buf (Elt F) ((c : Thread nD τ).loc cc0_scratch1)) (Q : PUnit → sProp 𝕄) :
    iprop(before m K c W fy fx fo ∗ (after m c (Yv m c) -∗ Q ⟨⟩))
      ⊢ wp frame (wpE (defs₀ (F := F)) 𝒱₀ (c : Thread nD τ) none) Set.univ (part (F := F)) Q := by
  by_cases h0 : 0 < c.val
  · by_cases h7 : c.val < 7
    · exact mid m K c h0 h7 W fy fx fo Q
    · exact last m K c h0 h7 W fy fx fo Q
  · exact first m K c h0 (by omega) W fy fx fo Q

/-- The part between the whole buffers. -/
theorem whole (c : Dev nD) (W : Waits sig Unit) :
    iprop(Φ₀ m c ∗ owes (c : Thread nD τ) (O₀ c) W)
      ⊢ wp frame (wpE (defs₀ (F := F)) 𝒱₀ (c : Thread nD τ) none) Set.univ (part (F := F))
          (fun _ => iprop(Φ₁ m c ∗ ∃ W, owes (c : Thread nD τ) 0 W)) := by
  unfold Φ₀ start scratch
  iintro ⟨⟨⟨⟨%K, HG⟩, HcB, HcR, Hlev, Hsems, Hx, Hy⟩, ⟨%f0, S0⟩, ⟨%f1, S1⟩, ⟨%f2, S2⟩, ⟨%f3, S3⟩⟩, HO⟩
  ihave Hx := (x_split m c) $$ Hx
  icases Hx with ⟨Hxin, HrF, HrL, Hrest⟩
  ihave Hy := (Entails.of_eq (y_chunks c _)) $$ Hy
  ihave S0 := (Entails.of_eq (xsl_slots c f0)) $$ S0
  ihave S1 := (Entails.of_eq (osl_slots c f1)) $$ S1
  ihave S2 := (Entails.of_eq (lo_whole c f2)) $$ S2
  ihave S3 := (Entails.of_eq (hi_whole c f3)) $$ S3
  iapply (runs m K c W _ f0 f1 _)
  isplitr [Hrest]
  · unfold before
    isplitl [HG]; · iexact HG
    isplitl [HcB]; · iexact HcB
    isplitl [HcR]; · iexact HcR
    isplitl [Hlev]; · iexact Hlev
    isplitl [S2]; · iexists f2; iexact S2
    isplitl [S3]; · iexists f3; iexact S3
    isplitl [HO]; · iexact HO
    isplitl [HrF]; · iexact HrF
    isplitl [HrL]; · iexact HrL
    isplitl [Hxin]; · iexact Hxin
    isplitl [Hy]; · iexact Hy
    isplitl [S0]; · iexact S0
    isplitl [S1]; · iexact S1
    iexact Hsems
  · unfold after
    iintro ⟨HrF, HrL, Hxin, Hy, S0, S1, ⟨%g2, S2⟩, ⟨%g3, S3⟩, Hsems, HZ, HO⟩
    isplitr [HO]
    · unfold Φ₁ scratch
      isplitl [Hxin HrF HrL Hrest]
      · iapply (x_join m c)
        isplitl [Hxin]; · iexact Hxin
        isplitl [HrF]; · iexact HrF
        isplitl [HrL]; · iexact HrL
        iexact Hrest
      isplitl [Hy]; · iapply (Entails.of_eq (y_chunks c _).symm); iexact Hy
      isplitl [Hsems]; · iexact Hsems
      isplitl [HZ]; · iexact HZ
      isplitl [S0]; · iapply (xsl_join c); iexact S0
      isplitl [S1]; · iapply (osl_join c); iexact S1
      isplitl [S2]; · iexists g2; iapply (Entails.of_eq (lo_whole c g2).symm); iexact S2
      iexists g3; iapply (Entails.of_eq (hi_whole c g3).symm); iexact S3
    · iexact HO

theorem ends (c : Dev nD) (W : Waits sig Unit) (Ψ : Fin cfg0.W → sProp 𝕄) :
    iprop(Φ₀ m c ∗ owes (c : Thread nD τ) (O₀ c) W)
      ⊢ wp frame (wpE (defs₀ (F := F)) 𝒱₀ (c : Thread nD τ) none) Set.univ (part (F := F))
          (fun _ => iprop(Φ₁ m c ∗ (dats m 0 c).owesAt () t0_0.succ ∗ bigSep Finset.univ Ψ)) :=
  (whole m c W).trans (wp_mono _ _ _ fun _ => by
    iintro ⟨HΦ, ⟨%W', HO⟩⟩
    isplitl [HΦ]; · iexact HΦ
    isplitl [HO]
    · unfold Dat.owesAt Pipeline.owesWithin
      iexists W'
      isplitr; · ipureintro; exact fun _ _ => Or.inl trivial
      iexact HO
    · rw [show (Finset.univ : Finset (Fin cfg0.W)) = ∅ from rfl, bigSep_empty]
      iempintro)

theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _)
    ⊢ wp frame (wpE (defs₀ (F := F)) 𝒱₀ (c : Thread nD τ) none) Set.univ (part (F := F))
      (fun _ => iprop(Φ₁ m c ∗ (dats m 0 c).owesAt () t0_0.succ ∗ bigSep Finset.univ _))
  iintro ⟨HΦ, Ho, -⟩
  unfold Dat.owesAt Pipeline.owesWithin
  icases Ho with ⟨%W, %hW, HO⟩
  iapply (ends m c W _)
  isplitl [HΦ]; · iexact HΦ
  iexact HO

/-! ## The launch's side conditions -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨⟨Hx, Hy⟩, Hlev, Hcr, -, HG, Hs⟩
  ihave Hc := (creds (F := F) c) $$ Hcr
  icases Hc with ⟨HB, HR⟩
  imodintro
  isplitl
  · isplitl [HG]; · iexact HG
    isplitl [HB]; · iexact HB
    isplitl [HR]; · iexact HR
    isplitl [Hlev]; · iexact Hlev
    isplitl [Hs]; · iexact Hs
    isplitl [Hx]; · iexact Hx
    iexact Hy
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device leaves with: its counters at zero, its block as it was, its part of the result. -/
def leaves (c : Dev nD) : sProp 𝕄 := iprop(unscopedSems0 c ∗ xAt m c ∗ yAt c (Yv m c))

theorem leave (c : Dev nD) :
    (dats m 0 c).Φ (Fin.last cfg0.N) ⊢ iprop(leaves m c ∗ ownAt c ∗ Pipeline.scopedRest cfg0.spec c) := by
  rw [show (dats m 0 c).Φ (Fin.last cfg0.N) = Φ₁ m c from rfl, scopedRest0_eq]
  unfold Φ₁ leaves zeros scratch
  rw [bar_eq]
  iintro ⟨Hx, Hy, Hs, ⟨ZB, Z0, Z1, Z2, Z3⟩, Hr⟩
  isplitl [ZB Hx Hy]
  · isplitl [ZB]; · iexact ZB
    isplitl [Hx]; · iexact Hx
    iexact Hy
  isplitl [Hs Z0 Z1 Z2 Z3]
  · iapply (own_join c)
    isplitl [Hs]; · iexact Hs
    isplitl [Z0]; · iexact Z0
    isplitl [Z1]; · iexact Z1
    isplitl [Z2]; · iexact Z2
    iexact Z3
  iexact Hr

theorem waits (c : Dev nD) : (levAts L lv : sProp 𝕄) ⊢ Pipeline.cellsWaits cfgs (dats m) () 0 c :=
  Pipeline.cellsWaits_intro cfgs (dats m) () 0 c fun w s t => w.elim0

/-- The launch element: the pipeline's own part, the exchange's cells. -/
def u₀ : UU := (initOf (Pipeline.cells cfgs cellOf_inj) (Pipeline.launchToks cfgs cellOf_inj), (initOf haloCells haloToks, 1))

theorem deal : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb _ _ _) $$ HX
  icases HX with ⟨HX, -⟩
  ihave HX := (show BI.own ((Emb.inl.trans embR).toFun (initOf haloCells haloToks)) ⊢ (BI.own (ER (initOf haloCells haloToks)) : sProp 𝕄) from .rfl) $$ HX
  imod (fund_halo m) $$ HX with HG
  imodintro
  isplitl [HP] <;> iassumption

/-- What is read off a final state at a device. -/
abbrev Final (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_v1) = Yv m c

set_option maxRecDepth 8000 in
/-- From any memory with zero counters every weakly fair execution of the eight devices terminates; in every final
    state each device's part of the result is the filtered block, its block read is unchanged and every counter is zero. -/
theorem run_main : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_v1) = Yv m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := deal m) (hglob := glob m)
    (hA := fun _ w => w.elim0) (hpf := fun _ k => k.elim0)
    (X := start m) (Y := leaves m) (Z := fun _ => iprop(emp))
    (hX := start_intro m ρ) (hin := enter m) (hout := leave m)
    (QY := Final m)
    (hY := fun c s' => by
      unfold leaves
      iintro ⟨⟨Hu, Hx, Hy⟩, -, HSI⟩
      icombine HSI Hx gives %hx
      icombine HSI Hy gives %hy
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ hx, Buf.eq_of_forall_mem_univ hy⟩
      iexact HSI)
    (hQ := fun _ h hs => ⟨fun c => ⟨(h c).2.2.2.1, (h c).2.2.2.2⟩, sem_eq_zero hs fun c => (h c).2.2.1⟩)

end Cert.Halo

end
-- ==== Proof.Ref.lean ====
/-
# The reference's result, element by element
-/
module

public import proofs.«01_k».proof.Proof.Launch
public import proofs.«01_k».proof.Proof.Gen.ReferenceIdeal.Run
public import Idealize.ShloMosaic.Lib.Pointwise
public import Idealize.ShloMosaic.Lib.IdealHost
public import Idealize.ShloMosaic.Lib.Layout

@[expose] public section

set_option maxRecDepth 16384

noncomputable section

namespace Cert.Halo.Ref

open Cert.ReferenceIdeal Cert.ReferenceIdeal.Gen
open Idealize.ShloMosaic Idealize.ShloMosaic.TcCoe

/-- The rows between the ends: a quarter of the row before, half of the row, a quarter of the row after. -/
abbrev innerV (e : S65536x1024.Idx → Ideal .f32) : S65534x1024.Idx → Ideal .f32 :=
  addf (addf (mulf (broadcastInDim S65534x1024 ![] bcast_S_S65534x1024 (constant S_ .f32 0x3E800000#32))
        (extractStridedSlice S65534x1024 ![0, 0] e slices_S65536x1024_S65534x1024_0_0))
      (mulf (broadcastInDim S65534x1024 ![] bcast_S_S65534x1024 (constant S_ .f32 0x3F000000#32))
        (extractStridedSlice S65534x1024 ![1, 0] e slices_S65536x1024_S65534x1024_1_0)))
    (mulf (broadcastInDim S65534x1024 ![] bcast_S_S65534x1024 (constant S_ .f32 0x3E800000#32))
      (extractStridedSlice S65534x1024 ![2, 0] e slices_S65536x1024_S65534x1024_2_0))

/-- The reference's result as a function of its argument. -/
def refV (x : S65536x1024.Idx → Ideal .bf16) : S65536x1024.Idx → Ideal .bf16 :=
  truncf .bf16 (concatenate S65536x1024 0
    [⟨S1x1024, extractStridedSlice S1x1024 ![0, 0] (extf .f32 x bitsLt_bf16_f32) slices_S65536x1024_S1x1024_0_0⟩,
      ⟨S65534x1024, innerV (extf .f32 x bitsLt_bf16_f32)⟩,
      ⟨S1x1024, extractStridedSlice S1x1024 ![65535, 0] (extf .f32 x bitsLt_bf16_f32) slices_S65536x1024_S1x1024_65535_0⟩]
    concatenates_S1x1024_S65534x1024_S1x1024_S65536x1024_d0) bitsLt_bf16_f32

/-- Row `n` of the whole array, for any `n`. -/
def row (x : S65536x1024.Idx → Ideal .bf16) (n : ℕ) (b : Fin 1024) : Ideal .bf16 :=
  if h : n < 65536 then x (ix2 (n0 := 65536) (n1 := 1024) ⟨n, h⟩ b) else 0

theorem row_lt (x : S65536x1024.Idx → Ideal .bf16) (n : ℕ) (h : n < 65536) (b : Fin 1024) :
    row x n b = x (ix2 (n0 := 65536) (n1 := 1024) ⟨n, h⟩ b) := dif_pos h

theorem quarter : Ideal.ofBits .f32 0x3E800000#32 = Ideal.ofBits .bf16 0x3E80#16 := by
  simp [Ideal.ofBits, Ideal.ieee, -EReal.coe_mul]; norm_num
theorem half : Ideal.ofBits .f32 0x3F000000#32 = Ideal.ofBits .bf16 0x3F00#16 := by
  simp [Ideal.ofBits, Ideal.ieee, -EReal.coe_mul]; norm_num

theorem refV_rows (x : S65536x1024.Idx → Ideal .bf16) (j : Fin 65536) (b : Fin 1024) :
    refV x (ix2 j b) = if h : j.val < 1 then x (ix2 j b)
      else if h' : j.val - 1 < 65534 then
        (Ideal.ofBits .f32 0x3E800000#32 * x (ix2 (n0 := 65536) (n1 := 1024) ⟨j.val - 1, by omega⟩ b)
            + Ideal.ofBits .f32 0x3F000000#32 * x (ix2 (n0 := 65536) (n1 := 1024) ⟨1 + (j.val - 1), by omega⟩ b)
          + Ideal.ofBits .f32 0x3E800000#32 * x (ix2 (n0 := 65536) (n1 := 1024) ⟨2 + (j.val - 1), by omega⟩ b) : EReal)
      else x (ix2 (n0 := 65536) (n1 := 1024) ⟨65535 + (j.val - 1 - 65534), by have := j.isLt; omega⟩ b) := by
  unfold refV
  pointwise

theorem refV_at (x : S65536x1024.Idx → Ideal .bf16) (j : Fin 65536) (b : Fin 1024) :
    refV x (ix2 j b) = if j.val = 0 ∨ j.val = 65535 then row x j.val b
      else stn (F := Ideal) (row x (j.val - 1) b) (row x j.val b) (row x (j.val + 1) b) := by
  have hj := j.isLt
  rw [refV_rows]
  by_cases h0 : j.val < 1
  · rw [dif_pos h0, if_pos (Or.inl (by omega)), row_lt x _ hj]
  · rw [dif_neg h0]
    by_cases h1 : j.val - 1 < 65534
    · rw [dif_pos h1, if_neg (by omega), row_lt x _ (by omega), row_lt x _ hj, row_lt x _ (by omega), quarter, half]
      have at_row (n n' : ℕ) (h) (h') (k : EReal) (e : n = n') :
          (k * x (ix2 (n0 := 65536) (n1 := 1024) ⟨n, h⟩ b) : EReal) = k * x (ix2 (n0 := 65536) (n1 := 1024) ⟨n', h'⟩ b) := by subst e; rfl
      rw [at_row (1 + (j.val - 1)) j.val _ hj _ (by omega), at_row (2 + (j.val - 1)) (j.val + 1) _ (by omega) _ (by omega)]
      rfl
    · rw [dif_neg h1, if_pos (Or.inr (by omega)), row_lt x _ hj]
      exact congrArg (fun k => x (ix2 (n0 := 65536) (n1 := 1024) k b)) (Fin.ext (by show 65535 + (j.val - 1 - 65534) = j.val; omega))

/-! ## A device's block of it -/

theorem nxt_val (c : Dev Cert.KernelIdeal.nD) (h : c.val < 7) : (nxt c).val = c.val + 1 := by
  show (c.val + 1) % 8 = _; omega
theorem prv_val (c : Dev Cert.KernelIdeal.nD) (h : 0 < c.val) : (prv c).val + 1 = c.val := by
  have hc : c.val < 8 := c.isLt
  show (c.val + 7) % 8 + 1 = _; omega

/-- The whole array is eight blocks of rows. -/
theorem tiles : Layout.Tiles ⟨2, ![8192, 1024]⟩ ⟨2, ![65536, 1024]⟩ 0 8 := by decide

variable (m : (ℓ : Loc Cert.KernelIdeal.nD Cert.KernelIdeal.τ Cert.KernelIdeal.sig) → Buf (Elt Ideal) ℓ) (x : S65536x1024.Idx → Ideal .bf16)
  (hx : ∀ c : Dev Cert.KernelIdeal.nD, XA m c = Layout.block ⟨2, ![8192, 1024]⟩ ⟨2, ![65536, 1024]⟩ 0 8 c x tiles)

include hx in
theorem block_row (c : Dev Cert.KernelIdeal.nD) (r : Fin 8192) (b : Fin 1024) :
    XA m c (ix2 r b) = row x (8192 * c.val + r.val) b := by
  have hc : c.val < 8 := c.isLt
  rw [hx c, row_lt x _ (by omega), Layout.block_apply]
  congr 1
  funext a
  match a with
  | ⟨0, _⟩ => exact Fin.ext (by show c.val * 8192 + r.val = 8192 * c.val + r.val; omega)
  | ⟨1, _⟩ => rfl

include hx in
/-- The rows a device reads, its neighbours' among them, are rows of the whole array. -/
theorem ex_row (c : Dev Cert.KernelIdeal.nD) (k : ℕ) (b : Fin 1024) (h0 : k = 0 → 0 < c.val) (h7 : k = 8193 → c.val < 7) (hk : k ≤ 8193) :
    ex m c k b = row x (8192 * c.val + k - 1) b := by
  unfold ex
  split
  · next h =>
    have := prv_val c (h0 h)
    rw [block_row m x hx]
    exact congrArg (fun n => row x n b) (by show 8192 * (prv c).val + 8191 = _; omega)
  · split
    · rw [block_row m x hx]
      exact congrArg (fun n => row x n b) (by show 8192 * c.val + (k - 1) = _; omega)
    · have := nxt_val c (h7 (by omega))
      rw [block_row m x hx]
      exact congrArg (fun n => row x n b) (by show 8192 * (nxt c).val + 0 = _; omega)

include hx in
theorem yrow_eq (c : Dev Cert.KernelIdeal.nD) (r : Fin 8192) (b : Fin 1024) (h : 8192 * c.val + r.val < 65536) :
    yrow m c r.val b = refV x (ix2 (n0 := 65536) (n1 := 1024) ⟨8192 * c.val + r.val, h⟩ b) := by
  have hc : c.val < 8 := c.isLt
  have hr := r.isLt
  rw [refV_at]
  unfold yrow
  dsimp only
  by_cases h : IsEnd c r.val
  · rw [if_pos h, if_pos (by rcases h with ⟨h1, h2⟩ | ⟨h1, h2⟩ <;> omega), ex_row m x hx c _ _ (by omega) (by omega) (by omega)]
    exact congrArg (fun n => row x n b) (by omega)
  · have h' : ¬ ((c.val = 0 ∧ r.val = 0) ∨ (c.val = 7 ∧ r.val = 8191)) := h
    rw [if_neg h, if_neg (by omega), ex_row m x hx c _ _ (by omega) (by omega) (by omega), ex_row m x hx c _ _ (by omega) (by omega) (by omega),
      ex_row m x hx c _ _ (by omega) (by omega) (by omega)]
    rw [show 8192 * c.val + (r.val + 1) - 1 = 8192 * c.val + r.val by omega,
      show 8192 * c.val + (r.val + 2) - 1 = 8192 * c.val + r.val + 1 by omega]

include hx in
/-- What device `c` ends with is block `c` of the reference's result. -/
theorem block_eq (c : Dev Cert.KernelIdeal.nD) :
    Yv m c = Layout.block ⟨2, ![8192, 1024]⟩ ⟨2, ![65536, 1024]⟩ 0 8 c (refV x) tiles := by
  funext (i : Cert.KernelIdeal.S8192x1024.Idx)
  have hc : c.val < 8 := c.isLt
  have hi : (i 0).val < 8192 := (i 0).isLt
  refine (yrow_eq m x hx c (i 0) (i 1) (by omega)).trans ?_
  rw [Layout.block_apply]
  refine congrArg (refV x) (funext fun a => ?_)
  match a with
  | ⟨0, _⟩ => exact Fin.ext (by show 8192 * c.val + (i 0).val = c.val * 8192 + (i 0).val; omega)
  | ⟨1, _⟩ => rfl

end Cert.Halo.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import Idealize.ShloMosaic.Adequacy
public import Idealize.ShloMosaic.Init

@[expose] public section

noncomputable section

namespace Cert.Proof

open Idealize.ShloMosaic Idealize.SL.Sem Cert.Kernel

theorem kernel_quiescent : Cert.quiescent_Kernel := fun m ρ _ =>
  (θ_run Cert.KernelIdeal.defs _ _).mono (fun _ h => ⟨fun c => (h.1 c).1, h.2⟩) (Cert.Halo.run_main (F := Bits) m ρ)

theorem ideal_quiescent : Cert.quiescent_KernelIdeal := fun m ρ _ =>
  (θ_run Cert.KernelIdeal.defs _ _).mono (fun _ h => ⟨fun c => (h.1 c).1, h.2⟩) (Cert.Halo.run_main (F := Ideal) m ρ)

/-- The reference declares no semaphore. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hx =>
  ⟨Cert.Halo.Ref.refV (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.Halo.Ref.block_eq m _ hx c), (h.1 c).1⟩)
      (Cert.Halo.run_main (F := Ideal) m ρ),
    (θ_run Cert.ReferenceIdeal.defs _ _).mono (fun _ h => ⟨(h 0).1.trans rfl, (h 0).2⟩) (Cert.ReferenceIdeal.Value.run (F := Ideal) m' ρ')⟩

theorem claim : Cert.Claim := ⟨Cert.Kernel.Gen.facts, Cert.KernelIdeal.Gen.facts, Cert.ReferenceIdeal.Gen.facts, kernel_quiescent, ideal_quiescent, reference_quiescent,
  trivial, algebraic⟩

end Cert.Proof

end
